-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_grid_graph [hPre_grid_graph : Cert.Pre_grid_graph.Facts] (m : (ℓ : Loc Cert.KernelIdeal.nD Cert.KernelIdeal.τ Cert.KernelIdeal.sig) → Buf (Elt Ideal) ℓ) : Prop :=
  ∀ c : Dev Cert.KernelIdeal.nD,
    (Cert.Pre_grid_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_grid_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_grid_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_grid_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_grid_graph [hPre_grid_graph : Cert.Pre_grid_graph.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_grid_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_grid_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_grid_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_grid_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_grid_graph [hKernelIdeal : Cert.KernelIdeal.Facts] [hPre_grid_graph : Cert.Pre_grid_graph.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_grid_graph m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_grid_graph [hReferenceIdeal : Cert.ReferenceIdeal.Facts] [hPre_grid_graph : Cert.Pre_grid_graph.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_grid_graph m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "rsqrt3" .f32 0x3F13CD3A#32 (((Real.sqrt 3)⁻¹ : ℝ) : EReal)

def algebraic_KernelIdeal_ReferenceIdeal_pre_grid_graph [hKernelIdeal : Cert.KernelIdeal.Facts] [hReferenceIdeal : Cert.ReferenceIdeal.Facts] [hPre_grid_graph : Cert.Pre_grid_graph.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_grid_graph m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_grid_graph : Cert.Pre_grid_graph.Facts),
    quiescent_Kernel (hKernel := hKernel)
    ∧ quiescent_KernelIdeal (hKernelIdeal := hKernelIdeal)
    ∧ quiescent_KernelIdeal_pre_grid_graph (hKernelIdeal := hKernelIdeal) (hPre_grid_graph := hPre_grid_graph)
    ∧ quiescent_ReferenceIdeal (hReferenceIdeal := hReferenceIdeal)
    ∧ quiescent_ReferenceIdeal_pre_grid_graph (hReferenceIdeal := hReferenceIdeal) (hPre_grid_graph := hPre_grid_graph)
    ∧ preserves_Kernel_KernelIdeal
    ∧ algebraic_KernelIdeal_ReferenceIdeal_pre_grid_graph (hKernelIdeal := hKernelIdeal) (hReferenceIdeal := hReferenceIdeal) (hPre_grid_graph := hPre_grid_graph)
-- ==== Pre_grid_graph.lean ====
abbrev S1x102400x8 : Shape := ⟨3, ![1, 102400, 8]⟩
abbrev S3x8x64 : Shape := ⟨3, ![3, 8, 64]⟩
abbrev S64 : Shape := ⟨1, ![64]⟩
abbrev S3x64x64 : Shape := ⟨3, ![3, 64, 64]⟩
abbrev S3x64x2 : Shape := ⟨3, ![3, 64, 2]⟩
abbrev S2 : Shape := ⟨1, ![2]⟩
abbrev S408960 : Shape := ⟨1, ![408960]⟩
abbrev S320x320 : Shape := ⟨2, ![320, 320]⟩
abbrev S_ : Shape := ⟨0, ![]⟩
abbrev S102400 : Shape := ⟨1, ![102400]⟩
abbrev S319x320 : Shape := ⟨2, ![319, 320]⟩
abbrev S102080 : Shape := ⟨1, ![102080]⟩
abbrev S8 : Shape := ⟨1, ![8]⟩

class Facts : Prop where
  bcast_S_S320x320 : S_.BroadcastsInDim S320x320 (![] : Fin 0 → Fin S320x320.rank)
  shapeCasts_S320x320_S102400 : S320x320.ShapeCasts S102400
  slices_S320x320_S319x320_0_0 : S320x320.Slices ![0, 0] S319x320
  shapeCasts_S319x320_S102080 : S319x320.ShapeCasts S102080
  slices_S320x320_S319x320_1_0 : S320x320.Slices ![1, 0] S319x320
  concatenates_S102400_S102400_S102080_S102080_S408960_d0 : Shape.Concatenates [S102400, S102400, S102080, S102080] S408960 0
  bcast_S_S1x102400x8 : S_.BroadcastsInDim S1x102400x8 (![] : Fin 0 → Fin S1x102400x8.rank)
  reducesTo_S1x102400x8_S8_d0_1 : S1x102400x8.ReducesTo [0, 1] S8
  h_S_ : 0 < S_.numel

variable [Facts]

def fn_where {F : FTy → Type} [FloatOps F] (arg0 : IVec S320x320 1) (arg1 : IVec S_ 32) (arg2 : IVec S320x320 32) : IVec S320x320 32 :=
  let v0 : IVec S_ 32 := id arg1
  let v1 : IVec S320x320 32 := broadcastInDim S320x320 ![] bcast_S_S320x320 v0
  let v2 : IVec S320x320 32 := select arg0 v1 arg2
  v2

def fn_where_0 {F : FTy → Type} [FloatOps F] (arg0 : IVec S320x320 1) (arg1 : FVec F S_ .f32) (arg2 : FVec F S_ .f32) : FVec F S320x320 .f32 :=
  let v0 : FVec F S320x320 .f32 := broadcastInDim S320x320 ![] bcast_S_S320x320 arg1
  let v1 : FVec F S320x320 .f32 := broadcastInDim S320x320 ![] bcast_S_S320x320 arg2
  let v2 : FVec F S320x320 .f32 := select arg0 v0 v1
  v2

def fn_part2 {F : FTy → Type} [FloatOps F] (main_arg0 : FVec F S1x102400x8 .f32) (main_arg11 : IVec S408960 32) (main_arg12 : IVec S408960 32) (main_arg13 : FVec F S408960 .f32) (main_v19 : IVec S408960 32) (main_v26 : IVec S408960 32) (main_v35 : FVec F S320x320 .f32) (main_v37 : FVec F S320x320 .f32) : IVec S8 1 × IVec S408960 1 × IVec S408960 1 × IVec S408960 1 :=
  let main_v38 : FVec F S102400 .f32 := shapeCast S102400 main_v37 shapeCasts_S320x320_S102400
  let main_v39 : FVec F S319x320 .f32 := (extractStridedSlice S319x320 ![0, 0] · slices_S320x320_S319x320_0_0) main_v35
  let main_v40 : FVec F S319x320 .f32 := Host.negf main_v39
  let main_v41 : FVec F S319x320 .f32 := (extractStridedSlice S319x320 ![1, 0] · slices_S320x320_S319x320_1_0) main_v35
  let main_v42 : FVec F S319x320 .f32 := mulf main_v40 main_v41
  let main_v43 : FVec F S102080 .f32 := shapeCast S102080 main_v42 shapeCasts_S319x320_S102080
  let main_v44 : FVec F S408960 .f32 := concatenate S408960 0 [⟨S102400, main_v38⟩, ⟨S102400, main_v38⟩, ⟨S102080, main_v43⟩, ⟨S102080, main_v43⟩] concatenates_S102400_S102400_S102080_S102080_S408960_d0
  let main_cst_8 : FVec F S_ .f32 := constant S_ .f32 0xFF800000#32
  let main_v45 : FVec F S1x102400x8 .f32 := broadcastInDim S1x102400x8 ![] bcast_S_S1x102400x8 main_cst_8
  let main_v46 : IVec S1x102400x8 1 := cmpf .ogt main_arg0 main_v45
  let main_c_9 : IVec S_ 1 := constantI S_ 1 1#1
  let main_v47 : IVec S8 1 := (fun x v => Host.reduce IntOp.andi x v reducesTo_S1x102400x8_S8_d0_1 h_S_) main_v46 main_c_9
  let main_cst_10 : FVec F S_ .f32 := constant S_ .f32 0x7F800000#32
  let main_v48 : FVec F S1x102400x8 .f32 := broadcastInDim S1x102400x8 ![] bcast_S_S1x102400x8 main_cst_10
  let main_v49 : IVec S1x102400x8 1 := cmpf .olt main_arg0 main_v48
  let main_c_11 : IVec S_ 1 := constantI S_ 1 1#1
  let main_v50 : IVec S8 1 := (fun x v => Host.reduce IntOp.andi x v reducesTo_S1x102400x8_S8_d0_1 h_S_) main_v49 main_c_11
  let main_v51 : IVec S8 1 := ori main_v47 main_v50
  let main_v52 : IVec S408960 1 := cmpi .eq main_arg11 main_v19
  let main_v53 : IVec S408960 1 := cmpi .eq main_arg12 main_v26
  let main_v54 : FVec F S408960 .f32 := id main_v44
  let main_v55 : IVec S408960 1 := cmpf .oeq main_arg13 main_v54
  (main_v51, main_v52, main_v53, main_v55)

def fn_part1 {F : FTy → Type} [FloatOps F] (main_arg0 : FVec F S1x102400x8 .f32) (main_arg11 : IVec S408960 32) (main_arg12 : IVec S408960 32) (main_arg13 : FVec F S408960 .f32) (main_v0 : IVec S320x320 32) (main_v4 : IVec S320x320 32) (main_v12 : IVec S320x320 32) (main_v13 : IVec S102400 32) (main_v14 : IVec S102400 32) (main_v16 : IVec S102080 32) (main_v18 : IVec S102080 32) : IVec S8 1 × IVec S408960 1 × IVec S408960 1 × IVec S408960 1 :=
  let main_v19 : IVec S408960 32 := concatenate S408960 0 [⟨S102400, main_v13⟩, ⟨S102400, main_v14⟩, ⟨S102080, main_v16⟩, ⟨S102080, main_v18⟩] concatenates_S102400_S102400_S102080_S102080_S408960_d0
  let main_v20 : IVec S102400 32 := shapeCast S102400 main_v12 shapeCasts_S320x320_S102400
  let main_v21 : IVec S102400 32 := shapeCast S102400 main_v4 shapeCasts_S320x320_S102400
  let main_v22 : IVec S319x320 32 := (extractStridedSlice S319x320 ![1, 0] · slices_S320x320_S319x320_1_0) main_v4
  let main_v23 : IVec S102080 32 := shapeCast S102080 main_v22 shapeCasts_S319x320_S102080
  let main_v24 : IVec S319x320 32 := (extractStridedSlice S319x320 ![0, 0] · slices_S320x320_S319x320_0_0) main_v4
  let main_v25 : IVec S102080 32 := shapeCast S102080 main_v24 shapeCasts_S319x320_S102080
  let main_v26 : IVec S408960 32 := concatenate S408960 0 [⟨S102400, main_v20⟩, ⟨S102400, main_v21⟩, ⟨S102080, main_v23⟩, ⟨S102080, main_v25⟩] concatenates_S102400_S102400_S102080_S102080_S408960_d0
  let main_c_4 : IVec S_ 32 := constantI S_ 32 0#32
  let main_v27 : IVec S320x320 32 := broadcastInDim S320x320 ![] bcast_S_S320x320 main_c_4
  let main_v28 : IVec S320x320 1 := cmpi .eq main_v0 main_v27
  let main_c_5 : IVec S_ 32 := constantI S_ 32 319#32
  let main_v29 : IVec S320x320 32 := broadcastInDim S320x320 ![] bcast_S_S320x320 main_c_5
  let main_v30 : IVec S320x320 1 := cmpi .eq main_v0 main_v29
  let main_v31 : IVec S320x320 1 := ori main_v28 main_v30
  let main_cst : FVec F S_ .f32 := constant S_ .f32 0x40400000#32
  let main_cst_6 : FVec F S_ .f32 := constant S_ .f32 0x40800000#32
  let main_v32 : FVec F S320x320 .f32 := fn_where_0 (F := F) main_v31 main_cst main_cst_6
  let main_v33 : FVec F S320x320 .f32 := Host.sqrt main_v32
  let main_cst_7 : FVec F S_ .f32 := constant S_ .f32 0x3F800000#32
  let main_v34 : FVec F S320x320 .f32 := broadcastInDim S320x320 ![] bcast_S_S320x320 main_cst_7
  let main_v35 : FVec F S320x320 .f32 := Host.divf main_v34 main_v33
  let main_v36 : FVec F S320x320 .f32 := Host.negf main_v35
  let main_v37 : FVec F S320x320 .f32 := mulf main_v36 main_v35
  fn_part2 (F := F) main_arg0 main_arg11 main_arg12 main_arg13 main_v19 main_v26 main_v35 main_v37

def fn {F : FTy → Type} [FloatOps F] (main_arg0 : FVec F S1x102400x8 .f32) (main_arg1 : FVec F S3x8x64 .f32) (main_arg2 : FVec F S64 .f32) (main_arg3 : FVec F S3x64x64 .f32) (main_arg4 : FVec F S64 .f32) (main_arg5 : FVec F S3x64x64 .f32) (main_arg6 : FVec F S64 .f32) (main_arg7 : FVec F S3x64x64 .f32) (main_arg8 : FVec F S64 .f32) (main_arg9 : FVec F S3x64x2 .f32) (main_arg10 : FVec F S2 .f32) (main_arg11 : IVec S408960 32) (main_arg12 : IVec S408960 32) (main_arg13 : FVec F S408960 .f32) : IVec S8 1 × IVec S408960 1 × IVec S408960 1 × IVec S408960 1 :=
  let main_v0 : IVec S320x320 32 := iotaInDim S320x320 32 0
  let main_v1 : IVec S320x320 32 := iotaInDim S320x320 32 1
  let main_c : IVec S_ 32 := constantI S_ 32 320#32
  let main_v2 : IVec S320x320 32 := broadcastInDim S320x320 ![] bcast_S_S320x320 main_c
  let main_v3 : IVec S320x320 32 := muli main_v0 main_v2
  let main_v4 : IVec S320x320 32 := addi main_v3 main_v1
  let main_c_0 : IVec S_ 32 := constantI S_ 32 320#32
  let main_v5 : IVec S320x320 32 := broadcastInDim S320x320 ![] bcast_S_S320x320 main_c_0
  let main_v6 : IVec S320x320 32 := muli main_v0 main_v5
  let main_c_1 : IVec S_ 32 := constantI S_ 32 319#32
  let main_v7 : IVec S320x320 32 := broadcastInDim S320x320 ![] bcast_S_S320x320 main_c_1
  let main_v8 : IVec S320x320 1 := cmpi .eq main_v1 main_v7
  let main_c_2 : IVec S_ 32 := constantI S_ 32 1#32
  let main_v9 : IVec S320x320 32 := broadcastInDim S320x320 ![] bcast_S_S320x320 main_c_2
  let main_v10 : IVec S320x320 32 := addi main_v1 main_v9
  let main_c_3 : IVec S_ 32 := constantI S_ 32 0#32
  let main_v11 : IVec S320x320 32 := fn_where (F := F) main_v8 main_c_3 main_v10
  let main_v12 : IVec S320x320 32 := addi main_v6 main_v11
  let main_v13 : IVec S102400 32 := shapeCast S102400 main_v4 shapeCasts_S320x320_S102400
  let main_v14 : IVec S102400 32 := shapeCast S102400 main_v12 shapeCasts_S320x320_S102400
  let main_v15 : IVec S319x320 32 := (extractStridedSlice S319x320 ![0, 0] · slices_S320x320_S319x320_0_0) main_v4
  let main_v16 : IVec S102080 32 := shapeCast S102080 main_v15 shapeCasts_S319x320_S102080
  let main_v17 : IVec S319x320 32 := (extractStridedSlice S319x320 ![1, 0] · slices_S320x320_S319x320_1_0) main_v4
  let main_v18 : IVec S102080 32 := shapeCast S102080 main_v17 shapeCasts_S319x320_S102080
  fn_part1 (F := F) main_arg0 main_arg11 main_arg12 main_arg13 main_v0 main_v4 main_v12 main_v13 main_v14 main_v16 main_v18
-- ==== Kernel.lean ====
abbrev S1x102400x8 : Shape := ⟨3, ![1, 102400, 8]⟩
abbrev S3x8x64 : Shape := ⟨3, ![3, 8, 64]⟩
abbrev S64 : Shape := ⟨1, ![64]⟩
abbrev S3x64x64 : Shape := ⟨3, ![3, 64, 64]⟩
abbrev S3x64x2 : Shape := ⟨3, ![3, 64, 2]⟩
abbrev S2 : Shape := ⟨1, ![2]⟩
abbrev S408960 : Shape := ⟨1, ![408960]⟩
abbrev S102400x8 : Shape := ⟨2, ![102400, 8]⟩
abbrev S320x320x8 : Shape := ⟨3, ![320, 320, 8]⟩
abbrev S320x8x320 : Shape := ⟨3, ![320, 8, 320]⟩
abbrev S1x8x64 : Shape := ⟨3, ![1, 8, 64]⟩
abbrev S8x64 : Shape := ⟨2, ![8, 64]⟩
abbrev S64x8 : Shape := ⟨2, ![64, 8]⟩
abbrev S64x24 : Shape := ⟨2, ![64, 24]⟩
abbrev S1x64x1 : Shape := ⟨3, ![1, 64, 1]⟩
abbrev S1x64x64 : Shape := ⟨3, ![1, 64, 64]⟩
abbrev S64x64 : Shape := ⟨2, ![64, 64]⟩
abbrev S64x192 : Shape := ⟨2, ![64, 192]⟩
abbrev S320x64x320 : Shape := ⟨3, ![320, 64, 320]⟩
abbrev S32x8x320 : Shape := ⟨3, ![32, 8, 320]⟩
abbrev S4x8x320 : Shape := ⟨3, ![4, 8, 320]⟩
abbrev S32x64x320 : Shape := ⟨3, ![32, 64, 320]⟩
abbrev S40x1x1 : Shape := ⟨3, ![40, 1, 1]⟩
abbrev S40x8x320 : Shape := ⟨3, ![40, 8, 320]⟩
abbrev S40x8x319 : Shape := ⟨3, ![40, 8, 319]⟩
abbrev S40x8x1 : Shape := ⟨3, ![40, 8, 1]⟩
abbrev S1x8x320 : Shape := ⟨3, ![1, 8, 320]⟩
abbrev S39x8x320 : Shape := ⟨3, ![39, 8, 320]⟩
abbrev S36x1x1 : Shape := ⟨3, ![36, 1, 1]⟩
abbrev S36x8x320 : Shape := ⟨3, ![36, 8, 320]⟩
abbrev S36x24x320 : Shape := ⟨3, ![36, 24, 320]⟩
abbrev S1x64x24 : Shape := ⟨3, ![1, 64, 24]⟩
abbrev S36x64x24 : Shape := ⟨3, ![36, 64, 24]⟩
abbrev S36x64x320 : Shape := ⟨3, ![36, 64, 320]⟩
abbrev S36x64x319 : Shape := ⟨3, ![36, 64, 319]⟩
abbrev S36x64x1 : Shape := ⟨3, ![36, 64, 1]⟩
abbrev S1x64x320 : Shape := ⟨3, ![1, 64, 320]⟩
abbrev S35x64x320 : Shape := ⟨3, ![35, 64, 320]⟩
abbrev S32x1x1 : Shape := ⟨3, ![32, 1, 1]⟩
abbrev S32x192x320 : Shape := ⟨3, ![32, 192, 320]⟩
abbrev S1x64x192 : Shape := ⟨3, ![1, 64, 192]⟩
abbrev S32x64x192 : Shape := ⟨3, ![32, 64, 192]⟩
abbrev S4x64x320 : Shape := ⟨3, ![4, 64, 320]⟩
abbrev S40x64x320 : Shape := ⟨3, ![40, 64, 320]⟩
abbrev S40x64x319 : Shape := ⟨3, ![40, 64, 319]⟩
abbrev S40x64x1 : Shape := ⟨3, ![40, 64, 1]⟩
abbrev S39x64x320 : Shape := ⟨3, ![39, 64, 320]⟩
abbrev S36x192x320 : Shape := ⟨3, ![36, 192, 320]⟩
abbrev S36x64x192 : Shape := ⟨3, ![36, 64, 192]⟩
abbrev S1x64x2 : Shape := ⟨3, ![1, 64, 2]⟩
abbrev S64x2 : Shape := ⟨2, ![64, 2]⟩
abbrev S2x64 : Shape := ⟨2, ![2, 64]⟩
abbrev S2x192 : Shape := ⟨2, ![2, 192]⟩
abbrev S1x2x1 : Shape := ⟨3, ![1, 2, 1]⟩
abbrev S320x2x320 : Shape := ⟨3, ![320, 2, 320]⟩
abbrev S2x64x320 : Shape := ⟨3, ![2, 64, 320]⟩
abbrev S32x2x320 : Shape := ⟨3, ![32, 2, 320]⟩
abbrev S1x2x192 : Shape := ⟨3, ![1, 2, 192]⟩
abbrev S32x2x192 : Shape := ⟨3, ![32, 2, 192]⟩
abbrev S320x320x2 : Shape := ⟨3, ![320, 320, 2]⟩
abbrev S1x102400x2 : Shape := ⟨3, ![1, 102400, 2]⟩

abbrev nBuf : Space → Nat
  | .hbm => 77
  | .vmem => 34
  | .smem => 0
  | _ => 0

abbrev bufTy : (tb : Table) → Fin (tcTables nBuf tb) → BufTy
  | .hbm, ⟨0, _⟩ => ⟨S1x102400x8, .f32⟩
  | .hbm, ⟨1, _⟩ => ⟨S3x8x64, .f32⟩
  | .hbm, ⟨2, _⟩ => ⟨S64, .f32⟩
  | .hbm, ⟨3, _⟩ => ⟨S3x64x64, .f32⟩
  | .hbm, ⟨4, _⟩ => ⟨S64, .f32⟩
  | .hbm, ⟨5, _⟩ => ⟨S3x64x64, .f32⟩
  | .hbm, ⟨6, _⟩ => ⟨S64, .f32⟩
  | .hbm, ⟨7, _⟩ => ⟨S3x64x64, .f32⟩
  | .hbm, ⟨8, _⟩ => ⟨S64, .f32⟩
  | .hbm, ⟨9, _⟩ => ⟨S3x64x2, .f32⟩
  | .hbm, ⟨10, _⟩ => ⟨S2, .f32⟩
  | .hbm, ⟨11, _⟩ => ⟨S408960, .i32⟩
  | .hbm, ⟨12, _⟩ => ⟨S408960, .i32⟩
  | .hbm, ⟨13, _⟩ => ⟨S408960, .f32⟩
  | .hbm, ⟨14, _⟩ => ⟨S102400x8, .f32⟩
  | .hbm, ⟨15, _⟩ => ⟨S320x320x8, .f32⟩
  | .hbm, ⟨16, _⟩ => ⟨S320x8x320, .f32⟩
  | .hbm, ⟨17, _⟩ => ⟨S1x8x64, .f32⟩
  | .hbm, ⟨18, _⟩ => ⟨S8x64, .f32⟩
  | .hbm, ⟨19, _⟩ => ⟨S64x8, .f32⟩
  | .hbm, ⟨20, _⟩ => ⟨S1x8x64, .f32⟩
  | .hbm, ⟨21, _⟩ => ⟨S8x64, .f32⟩
  | .hbm, ⟨22, _⟩ => ⟨S64x8, .f32⟩
  | .hbm, ⟨23, _⟩ => ⟨S1x8x64, .f32⟩
  | .hbm, ⟨24, _⟩ => ⟨S8x64, .f32⟩
  | .hbm, ⟨25, _⟩ => ⟨S64x8, .f32⟩
  | .hbm, ⟨26, _⟩ => ⟨S64x24, .f32⟩
  | .hbm, ⟨27, _⟩ => ⟨S1x64x1, .f32⟩
  | .hbm, ⟨28, _⟩ => ⟨S1x64x64, .f32⟩
  | .hbm, ⟨29, _⟩ => ⟨S64x64, .f32⟩
  | .hbm, ⟨30, _⟩ => ⟨S64x64, .f32⟩
  | .hbm, ⟨31, _⟩ => ⟨S1x64x64, .f32⟩
  | .hbm, ⟨32, _⟩ => ⟨S64x64, .f32⟩
  | .hbm, ⟨33, _⟩ => ⟨S64x64, .f32⟩
  | .hbm, ⟨34, _⟩ => ⟨S1x64x64, .f32⟩
  | .hbm, ⟨35, _⟩ => ⟨S64x64, .f32⟩
  | .hbm, ⟨36, _⟩ => ⟨S64x64, .f32⟩
  | .hbm, ⟨37, _⟩ => ⟨S64x192, .f32⟩
  | .hbm, ⟨38, _⟩ => ⟨S1x64x1, .f32⟩
  | .hbm, ⟨39, _⟩ => ⟨S320x64x320, .f32⟩
  | .hbm, ⟨40, _⟩ => ⟨S1x64x64, .f32⟩
  | .hbm, ⟨41, _⟩ => ⟨S64x64, .f32⟩
  | .hbm, ⟨42, _⟩ => ⟨S64x64, .f32⟩
  | .hbm, ⟨43, _⟩ => ⟨S1x64x64, .f32⟩
  | .hbm, ⟨44, _⟩ => ⟨S64x64, .f32⟩
  | .hbm, ⟨45, _⟩ => ⟨S64x64, .f32⟩
  | .hbm, ⟨46, _⟩ => ⟨S1x64x64, .f32⟩
  | .hbm, ⟨47, _⟩ => ⟨S64x64, .f32⟩
  | .hbm, ⟨48, _⟩ => ⟨S64x64, .f32⟩
  | .hbm, ⟨49, _⟩ => ⟨S64x192, .f32⟩
  | .hbm, ⟨50, _⟩ => ⟨S1x64x1, .f32⟩
  | .hbm, ⟨51, _⟩ => ⟨S1x64x64, .f32⟩
  | .hbm, ⟨52, _⟩ => ⟨S64x64, .f32⟩
  | .hbm, ⟨53, _⟩ => ⟨S64x64, .f32⟩
  | .hbm, ⟨54, _⟩ => ⟨S1x64x64, .f32⟩
  | .hbm, ⟨55, _⟩ => ⟨S64x64, .f32⟩
  | .hbm, ⟨56, _⟩ => ⟨S64x64, .f32⟩
  | .hbm, ⟨57, _⟩ => ⟨S1x64x64, .f32⟩
  | .hbm, ⟨58, _⟩ => ⟨S64x64, .f32⟩
  | .hbm, ⟨59, _⟩ => ⟨S64x64, .f32⟩
  | .hbm, ⟨60, _⟩ => ⟨S64x192, .f32⟩
  | .hbm, ⟨61, _⟩ => ⟨S1x64x1, .f32⟩
  | .hbm, ⟨62, _⟩ => ⟨S320x64x320, .f32⟩
  | .hbm, ⟨63, _⟩ => ⟨S1x64x2, .f32⟩
  | .hbm, ⟨64, _⟩ => ⟨S64x2, .f32⟩
  | .hbm, ⟨65, _⟩ => ⟨S2x64, .f32⟩
  | .hbm, ⟨66, _⟩ => ⟨S1x64x2, .f32⟩
  | .hbm, ⟨67, _⟩ => ⟨S64x2, .f32⟩
  | .hbm, ⟨68, _⟩ => ⟨S2x64, .f32⟩
  | .hbm, ⟨69, _⟩ => ⟨S1x64x2, .f32⟩
  | .hbm, ⟨70, _⟩ => ⟨S64x2, .f32⟩
  | .hbm, ⟨71, _⟩ => ⟨S2x64, .f32⟩
  | .hbm, ⟨72, _⟩ => ⟨S2x192, .f32⟩
  | .hbm, ⟨73, _⟩ => ⟨S1x2x1, .f32⟩
  | .hbm, ⟨74, _⟩ => ⟨S320x2x320, .f32⟩
  | .hbm, ⟨75, _⟩ => ⟨S320x320x2, .f32⟩
  | .hbm, ⟨76, _⟩ => ⟨S1x102400x2, .f32⟩
  | .local _ .vmem, ⟨0, _⟩ => ⟨S32x8x320, .f32⟩
  | .local _ .vmem, ⟨1, _⟩ => ⟨S32x8x320, .f32⟩
  | .local _ .vmem, ⟨2, _⟩ => ⟨S4x8x320, .f32⟩
  | .local _ .vmem, ⟨3, _⟩ => ⟨S4x8x320, .f32⟩
  | .local _ .vmem, ⟨4, _⟩ => ⟨S4x8x320, .f32⟩
  | .local _ .vmem, ⟨5, _⟩ => ⟨S4x8x320, .f32⟩
  | .local _ .vmem, ⟨6, _⟩ => ⟨S64x24, .f32⟩
  | .local _ .vmem, ⟨7, _⟩ => ⟨S1x64x1, .f32⟩
  | .local _ .vmem, ⟨8, _⟩ => ⟨S64x192, .f32⟩
  | .local _ .vmem, ⟨9, _⟩ => ⟨S1x64x1, .f32⟩
  | .local _ .vmem, ⟨10, _⟩ => ⟨S32x64x320, .f32⟩
  | .local _ .vmem, ⟨11, _⟩ => ⟨S32x64x320, .f32⟩
  | .local _ .vmem, ⟨12, _⟩ => ⟨S32x64x320, .f32⟩
  | .local _ .vmem, ⟨13, _⟩ => ⟨S32x64x320, .f32⟩
  | .local _ .vmem, ⟨14, _⟩ => ⟨S4x64x320, .f32⟩
  | .local _ .vmem, ⟨15, _⟩ => ⟨S4x64x320, .f32⟩
  | .local _ .vmem, ⟨16, _⟩ => ⟨S4x64x320, .f32⟩
  | .local _ .vmem, ⟨17, _⟩ => ⟨S4x64x320, .f32⟩
  | .local _ .vmem, ⟨18, _⟩ => ⟨S64x192, .f32⟩
  | .local _ .vmem, ⟨19, _⟩ => ⟨S1x64x1, .f32⟩
  | .local _ .vmem, ⟨20, _⟩ => ⟨S64x192, .f32⟩
  | .local _ .vmem, ⟨21, _⟩ => ⟨S1x64x1, .f32⟩
  | .local _ .vmem, ⟨22, _⟩ => ⟨S32x64x320, .f32⟩
  | .local _ .vmem, ⟨23, _⟩ => ⟨S32x64x320, .f32⟩
  | .local _ .vmem, ⟨24, _⟩ => ⟨S32x64x320, .f32⟩
  | .local _ .vmem, ⟨25, _⟩ => ⟨S32x64x320, .f32⟩
  | .local _ .vmem, ⟨26, _⟩ => ⟨S2x64x320, .f32⟩
  | .local _ .vmem, ⟨27, _⟩ => ⟨S2x64x320, .f32⟩
  | .local _ .vmem, ⟨28, _⟩ => ⟨S2x64x320, .f32⟩
  | .local _ .vmem, ⟨29, _⟩ => ⟨S2x64x320, .f32⟩
  | .local _ .vmem, ⟨30, _⟩ => ⟨S2x192, .f32⟩
  | .local _ .vmem, ⟨31, _⟩ => ⟨S1x2x1, .f32⟩
  | .local _ .vmem, ⟨32, _⟩ => ⟨S32x2x320, .f32⟩
  | .local _ .vmem, ⟨33, _⟩ => ⟨S32x2x320, .f32⟩
  | _, _ => ⟨S1x102400x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem5_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![v2.toNat, c0_i32_0.toNat, c0_i32_1.toNat]

def cc0_transform_2 (i : grid0.Coords) : Fin 3 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c79_i32 : BitVec 32 := 79#32
  let v2 : BitVec 32 := Scalar.minsi v1 c79_i32
  let c0_i32 : BitVec 32 := 0#32
  let c0_i32_0 : BitVec 32 := 0#32
  let c0_i32_1 : BitVec 32 := 0#32
  ![v2.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x8x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x8x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x8x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x64x320 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![v2.toNat, c0_i32_0.toNat, c0_i32_1.toNat]

def cc1_transform_2 (i : grid1.Coords) : Fin 3 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c79_i32 : BitVec 32 := 79#32
  let v2 : BitVec 32 := Scalar.minsi v1 c79_i32
  let c0_i32 : BitVec 32 := 0#32
  let c0_i32_0 : BitVec 32 := 0#32
  let c0_i32_1 : BitVec 32 := 0#32
  ![v2.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S32x64x320 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x64x320 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x64x320 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S32x64x320 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![v2.toNat, c0_i32_0.toNat, c0_i32_1.toNat]

def cc2_transform_2 (i : grid2.Coords) : Fin 3 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c159_i32 : BitVec 32 := 159#32
  let v2 : BitVec 32 := Scalar.minsi v1 c159_i32
  let c0_i32 : BitVec 32 := 0#32
  let c0_i32_0 : BitVec 32 := 0#32
  let c0_i32_1 : BitVec 32 := 0#32
  ![v2.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S32x64x320 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2x64x320 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2x64x320 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S2x192 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S32x2x320 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== KernelIdeal.lean ====
variable {F : FTy → Type} [FloatOps F] [Named F]
def κ : String → Option EReal := fun
  | "rsqrt3" => some (((Real.sqrt 3)⁻¹ : ℝ) : EReal)
  | _ => none
-- ==== ReferenceIdeal.lean ====
abbrev S1x102400x8 : Shape := ⟨3, ![1, 102400, 8]⟩
abbrev S3x8x64 : Shape := ⟨3, ![3, 8, 64]⟩
abbrev S64 : Shape := ⟨1, ![64]⟩
abbrev S3x64x64 : Shape := ⟨3, ![3, 64, 64]⟩
abbrev S3x64x2 : Shape := ⟨3, ![3, 64, 2]⟩
abbrev S2 : Shape := ⟨1, ![2]⟩
abbrev S408960 : Shape := ⟨1, ![408960]⟩
abbrev S102400x1x8 : Shape := ⟨3, ![102400, 1, 8]⟩
abbrev S102400x8 : Shape := ⟨2, ![102400, 8]⟩
abbrev S_ : Shape := ⟨0, ![]⟩
abbrev S408960x1 : Shape := ⟨2, ![408960, 1]⟩
abbrev S1 : Shape := ⟨1, ![1]⟩
abbrev S1x1 : Shape := ⟨2, ![1, 1]⟩
abbrev S408960x8 : Shape := ⟨2, ![408960, 8]⟩
abbrev S3x102400x8 : Shape := ⟨3, ![3, 102400, 8]⟩
abbrev S3x102400x1x8 : Shape := ⟨4, ![3, 102400, 1, 8]⟩
abbrev S1x102400x3x8 : Shape := ⟨4, ![1, 102400, 3, 8]⟩
abbrev S1x102400x24 : Shape := ⟨3, ![1, 102400, 24]⟩
abbrev S24x64 : Shape := ⟨2, ![24, 64]⟩
abbrev S1x102400x64 : Shape := ⟨3, ![1, 102400, 64]⟩
abbrev S1x1x64 : Shape := ⟨3, ![1, 1, 64]⟩
abbrev S102400x1x64 : Shape := ⟨3, ![102400, 1, 64]⟩
abbrev S102400x64 : Shape := ⟨2, ![102400, 64]⟩
abbrev S408960x64 : Shape := ⟨2, ![408960, 64]⟩
abbrev S3x102400x64 : Shape := ⟨3, ![3, 102400, 64]⟩
abbrev S3x102400x1x64 : Shape := ⟨4, ![3, 102400, 1, 64]⟩
abbrev S1x102400x3x64 : Shape := ⟨4, ![1, 102400, 3, 64]⟩
abbrev S1x102400x192 : Shape := ⟨3, ![1, 102400, 192]⟩
abbrev S192x64 : Shape := ⟨2, ![192, 64]⟩
abbrev S192x2 : Shape := ⟨2, ![192, 2]⟩
abbrev S1x102400x2 : Shape := ⟨3, ![1, 102400, 2]⟩
abbrev S1x1x2 : Shape := ⟨3, ![1, 1, 2]⟩

abbrev nBuf : Space → Nat
  | .hbm => 464
  | .vmem => 0
  | .smem => 0
  | _ => 0

abbrev hbmTy0_0 (i : Nat) : BufTy := match i % 128 with
  | 0 => ⟨S1x102400x8, .f32⟩
  | 1 => ⟨S3x8x64, .f32⟩
  | 2 => ⟨S64, .f32⟩
  | 3 => ⟨S3x64x64, .f32⟩
  | 4 => ⟨S64, .f32⟩
  | 5 => ⟨S3x64x64, .f32⟩
  | 6 => ⟨S64, .f32⟩
  | 7 => ⟨S3x64x64, .f32⟩
  | 8 => ⟨S64, .f32⟩
  | 9 => ⟨S3x64x2, .f32⟩
  | 10 => ⟨S2, .f32⟩
  | 11 => ⟨S408960, .i32⟩
  | 12 => ⟨S408960, .i32⟩
  | 13 => ⟨S408960, .f32⟩
  | 14 => ⟨S102400x1x8, .f32⟩
  | 15 => ⟨S102400x8, .f32⟩
  | 16 => ⟨S_, .i32⟩
  | 17 => ⟨S408960, .i32⟩
  | 18 => ⟨S408960, .i1⟩
  | 19 => ⟨S_, .i32⟩
  | 20 => ⟨S408960, .i32⟩
  | 21 => ⟨S408960, .i32⟩
  | 22 => ⟨S408960, .i32⟩
  | 23 => ⟨S408960x1, .i32⟩
  | 24 => ⟨S1, .i32⟩
  | 25 => ⟨S_, .i32⟩
  | 26 => ⟨S408960x1, .i32⟩
  | 27 => ⟨S408960x1, .i1⟩
  | 28 => ⟨S1x1, .i32⟩
  | 29 => ⟨S408960x1, .i32⟩
  | 30 => ⟨S408960x1, .i1⟩
  | 31 => ⟨S408960x1, .i1⟩
  | 32 => ⟨S_, .i1⟩
  | 33 => ⟨S408960, .i1⟩
  | 34 => ⟨S408960x8, .f32⟩
  | 35 => ⟨S408960x8, .i1⟩
  | 36 => ⟨S_, .f32⟩
  | 37 => ⟨S408960x8, .f32⟩
  | 38 => ⟨S408960x8, .f32⟩
  | 39 => ⟨S408960x1, .f32⟩
  | 40 => ⟨S408960x8, .f32⟩
  | 41 => ⟨S408960x8, .f32⟩
  | 42 => ⟨S_, .f32⟩
  | 43 => ⟨S102400x8, .f32⟩
  | 44 => ⟨S408960x1, .i32⟩
  | 45 => ⟨S102400x8, .f32⟩
  | 46 => ⟨S_, .i32⟩
  | 47 => ⟨S408960, .i32⟩
  | 48 => ⟨S408960, .i1⟩
  | 49 => ⟨S_, .i32⟩
  | 50 => ⟨S408960, .i32⟩
  | 51 => ⟨S408960, .i32⟩
  | 52 => ⟨S408960, .i32⟩
  | 53 => ⟨S408960x1, .i32⟩
  | 54 => ⟨S1, .i32⟩
  | 55 => ⟨S_, .i32⟩
  | 56 => ⟨S408960x1, .i32⟩
  | 57 => ⟨S408960x1, .i1⟩
  | 58 => ⟨S1x1, .i32⟩
  | 59 => ⟨S408960x1, .i32⟩
  | 60 => ⟨S408960x1, .i1⟩
  | 61 => ⟨S408960x1, .i1⟩
  | 62 => ⟨S_, .i1⟩
  | 63 => ⟨S408960, .i1⟩
  | 64 => ⟨S408960x8, .f32⟩
  | 65 => ⟨S408960x8, .i1⟩
  | 66 => ⟨S_, .f32⟩
  | 67 => ⟨S408960x8, .f32⟩
  | 68 => ⟨S408960x8, .f32⟩
  | 69 => ⟨S408960x1, .f32⟩
  | 70 => ⟨S408960x8, .f32⟩
  | 71 => ⟨S408960x8, .f32⟩
  | 72 => ⟨S_, .f32⟩
  | 73 => ⟨S102400x8, .f32⟩
  | 74 => ⟨S408960x1, .i32⟩
  | 75 => ⟨S102400x8, .f32⟩
  | 76 => ⟨S_, .f32⟩
  | 77 => ⟨S102400x8, .f32⟩
  | 78 => ⟨S102400x8, .f32⟩
  | 79 => ⟨S102400x8, .f32⟩
  | 80 => ⟨S1x102400x8, .f32⟩
  | 81 => ⟨S1x102400x8, .f32⟩
  | 82 => ⟨S1x102400x8, .f32⟩
  | 83 => ⟨S3x102400x8, .f32⟩
  | 84 => ⟨S3x102400x1x8, .f32⟩
  | 85 => ⟨S1x102400x3x8, .f32⟩
  | 86 => ⟨S1x102400x24, .f32⟩
  | 87 => ⟨S24x64, .f32⟩
  | 88 => ⟨S1x102400x64, .f32⟩
  | 89 => ⟨S1x1x64, .f32⟩
  | 90 => ⟨S1x102400x64, .f32⟩
  | 91 => ⟨S1x102400x64, .f32⟩
  | 92 => ⟨S_, .f32⟩
  | 93 => ⟨S1x102400x64, .f32⟩
  | 94 => ⟨S1x102400x64, .i1⟩
  | 95 => ⟨S_, .f32⟩
  | 96 => ⟨S1x102400x64, .f32⟩
  | 97 => ⟨S1x102400x64, .i1⟩
  | 98 => ⟨S_, .f32⟩
  | 99 => ⟨S_, .f32⟩
  | 100 => ⟨S1x102400x64, .f32⟩
  | 101 => ⟨S1x102400x64, .f32⟩
  | 102 => ⟨S1x102400x64, .f32⟩
  | 103 => ⟨S_, .f32⟩
  | 104 => ⟨S1x102400x64, .f32⟩
  | 105 => ⟨S1x102400x64, .f32⟩
  | 106 => ⟨S1x102400x64, .f32⟩
  | 107 => ⟨S102400x1x64, .f32⟩
  | 108 => ⟨S102400x64, .f32⟩
  | 109 => ⟨S_, .i32⟩
  | 110 => ⟨S408960, .i32⟩
  | 111 => ⟨S408960, .i1⟩
  | 112 => ⟨S_, .i32⟩
  | 113 => ⟨S408960, .i32⟩
  | 114 => ⟨S408960, .i32⟩
  | 115 => ⟨S408960, .i32⟩
  | 116 => ⟨S408960x1, .i32⟩
  | 117 => ⟨S1, .i32⟩
  | 118 => ⟨S_, .i32⟩
  | 119 => ⟨S408960x1, .i32⟩
  | 120 => ⟨S408960x1, .i1⟩
  | 121 => ⟨S1x1, .i32⟩
  | 122 => ⟨S408960x1, .i32⟩
  | 123 => ⟨S408960x1, .i1⟩
  | 124 => ⟨S408960x1, .i1⟩
  | 125 => ⟨S_, .i1⟩
  | 126 => ⟨S408960, .i1⟩
  | 127 => ⟨S408960x64, .f32⟩
  | _ => ⟨S1x102400x8, .f32⟩

abbrev hbmTy0_1 (i : Nat) : BufTy := match i % 128 with
  | 0 => ⟨S408960x64, .i1⟩
  | 1 => ⟨S_, .f32⟩
  | 2 => ⟨S408960x64, .f32⟩
  | 3 => ⟨S408960x64, .f32⟩
  | 4 => ⟨S408960x1, .f32⟩
  | 5 => ⟨S408960x64, .f32⟩
  | 6 => ⟨S408960x64, .f32⟩
  | 7 => ⟨S_, .f32⟩
  | 8 => ⟨S102400x64, .f32⟩
  | 9 => ⟨S408960x1, .i32⟩
  | 10 => ⟨S102400x64, .f32⟩
  | 11 => ⟨S_, .i32⟩
  | 12 => ⟨S408960, .i32⟩
  | 13 => ⟨S408960, .i1⟩
  | 14 => ⟨S_, .i32⟩
  | 15 => ⟨S408960, .i32⟩
  | 16 => ⟨S408960, .i32⟩
  | 17 => ⟨S408960, .i32⟩
  | 18 => ⟨S408960x1, .i32⟩
  | 19 => ⟨S1, .i32⟩
  | 20 => ⟨S_, .i32⟩
  | 21 => ⟨S408960x1, .i32⟩
  | 22 => ⟨S408960x1, .i1⟩
  | 23 => ⟨S1x1, .i32⟩
  | 24 => ⟨S408960x1, .i32⟩
  | 25 => ⟨S408960x1, .i1⟩
  | 26 => ⟨S408960x1, .i1⟩
  | 27 => ⟨S_, .i1⟩
  | 28 => ⟨S408960, .i1⟩
  | 29 => ⟨S408960x64, .f32⟩
  | 30 => ⟨S408960x64, .i1⟩
  | 31 => ⟨S_, .f32⟩
  | 32 => ⟨S408960x64, .f32⟩
  | 33 => ⟨S408960x64, .f32⟩
  | 34 => ⟨S408960x1, .f32⟩
  | 35 => ⟨S408960x64, .f32⟩
  | 36 => ⟨S408960x64, .f32⟩
  | 37 => ⟨S_, .f32⟩
  | 38 => ⟨S102400x64, .f32⟩
  | 39 => ⟨S408960x1, .i32⟩
  | 40 => ⟨S102400x64, .f32⟩
  | 41 => ⟨S_, .f32⟩
  | 42 => ⟨S102400x64, .f32⟩
  | 43 => ⟨S102400x64, .f32⟩
  | 44 => ⟨S102400x64, .f32⟩
  | 45 => ⟨S1x102400x64, .f32⟩
  | 46 => ⟨S1x102400x64, .f32⟩
  | 47 => ⟨S1x102400x64, .f32⟩
  | 48 => ⟨S3x102400x64, .f32⟩
  | 49 => ⟨S3x102400x1x64, .f32⟩
  | 50 => ⟨S1x102400x3x64, .f32⟩
  | 51 => ⟨S1x102400x192, .f32⟩
  | 52 => ⟨S192x64, .f32⟩
  | 53 => ⟨S1x102400x64, .f32⟩
  | 54 => ⟨S1x1x64, .f32⟩
  | 55 => ⟨S1x102400x64, .f32⟩
  | 56 => ⟨S1x102400x64, .f32⟩
  | 57 => ⟨S_, .f32⟩
  | 58 => ⟨S1x102400x64, .f32⟩
  | 59 => ⟨S1x102400x64, .i1⟩
  | 60 => ⟨S_, .f32⟩
  | 61 => ⟨S1x102400x64, .f32⟩
  | 62 => ⟨S1x102400x64, .i1⟩
  | 63 => ⟨S_, .f32⟩
  | 64 => ⟨S_, .f32⟩
  | 65 => ⟨S1x102400x64, .f32⟩
  | 66 => ⟨S1x102400x64, .f32⟩
  | 67 => ⟨S1x102400x64, .f32⟩
  | 68 => ⟨S_, .f32⟩
  | 69 => ⟨S1x102400x64, .f32⟩
  | 70 => ⟨S1x102400x64, .f32⟩
  | 71 => ⟨S1x102400x64, .f32⟩
  | 72 => ⟨S102400x1x64, .f32⟩
  | 73 => ⟨S102400x64, .f32⟩
  | 74 => ⟨S_, .i32⟩
  | 75 => ⟨S408960, .i32⟩
  | 76 => ⟨S408960, .i1⟩
  | 77 => ⟨S_, .i32⟩
  | 78 => ⟨S408960, .i32⟩
  | 79 => ⟨S408960, .i32⟩
  | 80 => ⟨S408960, .i32⟩
  | 81 => ⟨S408960x1, .i32⟩
  | 82 => ⟨S1, .i32⟩
  | 83 => ⟨S_, .i32⟩
  | 84 => ⟨S408960x1, .i32⟩
  | 85 => ⟨S408960x1, .i1⟩
  | 86 => ⟨S1x1, .i32⟩
  | 87 => ⟨S408960x1, .i32⟩
  | 88 => ⟨S408960x1, .i1⟩
  | 89 => ⟨S408960x1, .i1⟩
  | 90 => ⟨S_, .i1⟩
  | 91 => ⟨S408960, .i1⟩
  | 92 => ⟨S408960x64, .f32⟩
  | 93 => ⟨S408960x64, .i1⟩
  | 94 => ⟨S_, .f32⟩
  | 95 => ⟨S408960x64, .f32⟩
  | 96 => ⟨S408960x64, .f32⟩
  | 97 => ⟨S408960x1, .f32⟩
  | 98 => ⟨S408960x64, .f32⟩
  | 99 => ⟨S408960x64, .f32⟩
  | 100 => ⟨S_, .f32⟩
  | 101 => ⟨S102400x64, .f32⟩
  | 102 => ⟨S408960x1, .i32⟩
  | 103 => ⟨S102400x64, .f32⟩
  | 104 => ⟨S_, .i32⟩
  | 105 => ⟨S408960, .i32⟩
  | 106 => ⟨S408960, .i1⟩
  | 107 => ⟨S_, .i32⟩
  | 108 => ⟨S408960, .i32⟩
  | 109 => ⟨S408960, .i32⟩
  | 110 => ⟨S408960, .i32⟩
  | 111 => ⟨S408960x1, .i32⟩
  | 112 => ⟨S1, .i32⟩
  | 113 => ⟨S_, .i32⟩
  | 114 => ⟨S408960x1, .i32⟩
  | 115 => ⟨S408960x1, .i1⟩
  | 116 => ⟨S1x1, .i32⟩
  | 117 => ⟨S408960x1, .i32⟩
  | 118 => ⟨S408960x1, .i1⟩
  | 119 => ⟨S408960x1, .i1⟩
  | 120 => ⟨S_, .i1⟩
  | 121 => ⟨S408960, .i1⟩
  | 122 => ⟨S408960x64, .f32⟩
  | 123 => ⟨S408960x64, .i1⟩
  | 124 => ⟨S_, .f32⟩
  | 125 => ⟨S408960x64, .f32⟩
  | 126 => ⟨S408960x64, .f32⟩
  | 127 => ⟨S408960x1, .f32⟩
  | _ => ⟨S1x102400x8, .f32⟩

abbrev hbmTy0_2 (i : Nat) : BufTy := match i % 128 with
  | 0 => ⟨S408960x64, .f32⟩
  | 1 => ⟨S408960x64, .f32⟩
  | 2 => ⟨S_, .f32⟩
  | 3 => ⟨S102400x64, .f32⟩
  | 4 => ⟨S408960x1, .i32⟩
  | 5 => ⟨S102400x64, .f32⟩
  | 6 => ⟨S_, .f32⟩
  | 7 => ⟨S102400x64, .f32⟩
  | 8 => ⟨S102400x64, .f32⟩
  | 9 => ⟨S102400x64, .f32⟩
  | 10 => ⟨S1x102400x64, .f32⟩
  | 11 => ⟨S1x102400x64, .f32⟩
  | 12 => ⟨S1x102400x64, .f32⟩
  | 13 => ⟨S3x102400x64, .f32⟩
  | 14 => ⟨S3x102400x1x64, .f32⟩
  | 15 => ⟨S1x102400x3x64, .f32⟩
  | 16 => ⟨S1x102400x192, .f32⟩
  | 17 => ⟨S192x64, .f32⟩
  | 18 => ⟨S1x102400x64, .f32⟩
  | 19 => ⟨S1x1x64, .f32⟩
  | 20 => ⟨S1x102400x64, .f32⟩
  | 21 => ⟨S1x102400x64, .f32⟩
  | 22 => ⟨S_, .f32⟩
  | 23 => ⟨S1x102400x64, .f32⟩
  | 24 => ⟨S1x102400x64, .i1⟩
  | 25 => ⟨S_, .f32⟩
  | 26 => ⟨S1x102400x64, .f32⟩
  | 27 => ⟨S1x102400x64, .i1⟩
  | 28 => ⟨S_, .f32⟩
  | 29 => ⟨S_, .f32⟩
  | 30 => ⟨S1x102400x64, .f32⟩
  | 31 => ⟨S1x102400x64, .f32⟩
  | 32 => ⟨S1x102400x64, .f32⟩
  | 33 => ⟨S_, .f32⟩
  | 34 => ⟨S1x102400x64, .f32⟩
  | 35 => ⟨S1x102400x64, .f32⟩
  | 36 => ⟨S1x102400x64, .f32⟩
  | 37 => ⟨S102400x1x64, .f32⟩
  | 38 => ⟨S102400x64, .f32⟩
  | 39 => ⟨S_, .i32⟩
  | 40 => ⟨S408960, .i32⟩
  | 41 => ⟨S408960, .i1⟩
  | 42 => ⟨S_, .i32⟩
  | 43 => ⟨S408960, .i32⟩
  | 44 => ⟨S408960, .i32⟩
  | 45 => ⟨S408960, .i32⟩
  | 46 => ⟨S408960x1, .i32⟩
  | 47 => ⟨S1, .i32⟩
  | 48 => ⟨S_, .i32⟩
  | 49 => ⟨S408960x1, .i32⟩
  | 50 => ⟨S408960x1, .i1⟩
  | 51 => ⟨S1x1, .i32⟩
  | 52 => ⟨S408960x1, .i32⟩
  | 53 => ⟨S408960x1, .i1⟩
  | 54 => ⟨S408960x1, .i1⟩
  | 55 => ⟨S_, .i1⟩
  | 56 => ⟨S408960, .i1⟩
  | 57 => ⟨S408960x64, .f32⟩
  | 58 => ⟨S408960x64, .i1⟩
  | 59 => ⟨S_, .f32⟩
  | 60 => ⟨S408960x64, .f32⟩
  | 61 => ⟨S408960x64, .f32⟩
  | 62 => ⟨S408960x1, .f32⟩
  | 63 => ⟨S408960x64, .f32⟩
  | 64 => ⟨S408960x64, .f32⟩
  | 65 => ⟨S_, .f32⟩
  | 66 => ⟨S102400x64, .f32⟩
  | 67 => ⟨S408960x1, .i32⟩
  | 68 => ⟨S102400x64, .f32⟩
  | 69 => ⟨S_, .i32⟩
  | 70 => ⟨S408960, .i32⟩
  | 71 => ⟨S408960, .i1⟩
  | 72 => ⟨S_, .i32⟩
  | 73 => ⟨S408960, .i32⟩
  | 74 => ⟨S408960, .i32⟩
  | 75 => ⟨S408960, .i32⟩
  | 76 => ⟨S408960x1, .i32⟩
  | 77 => ⟨S1, .i32⟩
  | 78 => ⟨S_, .i32⟩
  | 79 => ⟨S408960x1, .i32⟩
  | 80 => ⟨S408960x1, .i1⟩
  | 81 => ⟨S1x1, .i32⟩
  | 82 => ⟨S408960x1, .i32⟩
  | 83 => ⟨S408960x1, .i1⟩
  | 84 => ⟨S408960x1, .i1⟩
  | 85 => ⟨S_, .i1⟩
  | 86 => ⟨S408960, .i1⟩
  | 87 => ⟨S408960x64, .f32⟩
  | 88 => ⟨S408960x64, .i1⟩
  | 89 => ⟨S_, .f32⟩
  | 90 => ⟨S408960x64, .f32⟩
  | 91 => ⟨S408960x64, .f32⟩
  | 92 => ⟨S408960x1, .f32⟩
  | 93 => ⟨S408960x64, .f32⟩
  | 94 => ⟨S408960x64, .f32⟩
  | 95 => ⟨S_, .f32⟩
  | 96 => ⟨S102400x64, .f32⟩
  | 97 => ⟨S408960x1, .i32⟩
  | 98 => ⟨S102400x64, .f32⟩
  | 99 => ⟨S_, .f32⟩
  | 100 => ⟨S102400x64, .f32⟩
  | 101 => ⟨S102400x64, .f32⟩
  | 102 => ⟨S102400x64, .f32⟩
  | 103 => ⟨S1x102400x64, .f32⟩
  | 104 => ⟨S1x102400x64, .f32⟩
  | 105 => ⟨S1x102400x64, .f32⟩
  | 106 => ⟨S3x102400x64, .f32⟩
  | 107 => ⟨S3x102400x1x64, .f32⟩
  | 108 => ⟨S1x102400x3x64, .f32⟩
  | 109 => ⟨S1x102400x192, .f32⟩
  | 110 => ⟨S192x64, .f32⟩
  | 111 => ⟨S1x102400x64, .f32⟩
  | 112 => ⟨S1x1x64, .f32⟩
  | 113 => ⟨S1x102400x64, .f32⟩
  | 114 => ⟨S1x102400x64, .f32⟩
  | 115 => ⟨S_, .f32⟩
  | 116 => ⟨S1x102400x64, .f32⟩
  | 117 => ⟨S1x102400x64, .i1⟩
  | 118 => ⟨S_, .f32⟩
  | 119 => ⟨S1x102400x64, .f32⟩
  | 120 => ⟨S1x102400x64, .i1⟩
  | 121 => ⟨S_, .f32⟩
  | 122 => ⟨S_, .f32⟩
  | 123 => ⟨S1x102400x64, .f32⟩
  | 124 => ⟨S1x102400x64, .f32⟩
  | 125 => ⟨S1x102400x64, .f32⟩
  | 126 => ⟨S_, .f32⟩
  | 127 => ⟨S1x102400x64, .f32⟩
  | _ => ⟨S1x102400x8, .f32⟩

abbrev hbmTy0_3 (i : Nat) : BufTy := match i % 128 with
  | 0 => ⟨S1x102400x64, .f32⟩
  | 1 => ⟨S1x102400x64, .f32⟩
  | 2 => ⟨S102400x1x64, .f32⟩
  | 3 => ⟨S102400x64, .f32⟩
  | 4 => ⟨S_, .i32⟩
  | 5 => ⟨S408960, .i32⟩
  | 6 => ⟨S408960, .i1⟩
  | 7 => ⟨S_, .i32⟩
  | 8 => ⟨S408960, .i32⟩
  | 9 => ⟨S408960, .i32⟩
  | 10 => ⟨S408960, .i32⟩
  | 11 => ⟨S408960x1, .i32⟩
  | 12 => ⟨S1, .i32⟩
  | 13 => ⟨S_, .i32⟩
  | 14 => ⟨S408960x1, .i32⟩
  | 15 => ⟨S408960x1, .i1⟩
  | 16 => ⟨S1x1, .i32⟩
  | 17 => ⟨S408960x1, .i32⟩
  | 18 => ⟨S408960x1, .i1⟩
  | 19 => ⟨S408960x1, .i1⟩
  | 20 => ⟨S_, .i1⟩
  | 21 => ⟨S408960, .i1⟩
  | 22 => ⟨S408960x64, .f32⟩
  | 23 => ⟨S408960x64, .i1⟩
  | 24 => ⟨S_, .f32⟩
  | 25 => ⟨S408960x64, .f32⟩
  | 26 => ⟨S408960x64, .f32⟩
  | 27 => ⟨S408960x1, .f32⟩
  | 28 => ⟨S408960x64, .f32⟩
  | 29 => ⟨S408960x64, .f32⟩
  | 30 => ⟨S_, .f32⟩
  | 31 => ⟨S102400x64, .f32⟩
  | 32 => ⟨S408960x1, .i32⟩
  | 33 => ⟨S102400x64, .f32⟩
  | 34 => ⟨S_, .i32⟩
  | 35 => ⟨S408960, .i32⟩
  | 36 => ⟨S408960, .i1⟩
  | 37 => ⟨S_, .i32⟩
  | 38 => ⟨S408960, .i32⟩
  | 39 => ⟨S408960, .i32⟩
  | 40 => ⟨S408960, .i32⟩
  | 41 => ⟨S408960x1, .i32⟩
  | 42 => ⟨S1, .i32⟩
  | 43 => ⟨S_, .i32⟩
  | 44 => ⟨S408960x1, .i32⟩
  | 45 => ⟨S408960x1, .i1⟩
  | 46 => ⟨S1x1, .i32⟩
  | 47 => ⟨S408960x1, .i32⟩
  | 48 => ⟨S408960x1, .i1⟩
  | 49 => ⟨S408960x1, .i1⟩
  | 50 => ⟨S_, .i1⟩
  | 51 => ⟨S408960, .i1⟩
  | 52 => ⟨S408960x64, .f32⟩
  | 53 => ⟨S408960x64, .i1⟩
  | 54 => ⟨S_, .f32⟩
  | 55 => ⟨S408960x64, .f32⟩
  | 56 => ⟨S408960x64, .f32⟩
  | 57 => ⟨S408960x1, .f32⟩
  | 58 => ⟨S408960x64, .f32⟩
  | 59 => ⟨S408960x64, .f32⟩
  | 60 => ⟨S_, .f32⟩
  | 61 => ⟨S102400x64, .f32⟩
  | 62 => ⟨S408960x1, .i32⟩
  | 63 => ⟨S102400x64, .f32⟩
  | 64 => ⟨S_, .f32⟩
  | 65 => ⟨S102400x64, .f32⟩
  | 66 => ⟨S102400x64, .f32⟩
  | 67 => ⟨S102400x64, .f32⟩
  | 68 => ⟨S1x102400x64, .f32⟩
  | 69 => ⟨S1x102400x64, .f32⟩
  | 70 => ⟨S1x102400x64, .f32⟩
  | 71 => ⟨S3x102400x64, .f32⟩
  | 72 => ⟨S3x102400x1x64, .f32⟩
  | 73 => ⟨S1x102400x3x64, .f32⟩
  | 74 => ⟨S1x102400x192, .f32⟩
  | 75 => ⟨S192x2, .f32⟩
  | 76 => ⟨S1x102400x2, .f32⟩
  | 77 => ⟨S1x1x2, .f32⟩
  | 78 => ⟨S1x102400x2, .f32⟩
  | 79 => ⟨S1x102400x2, .f32⟩
  | _ => ⟨S1x102400x8, .f32⟩

abbrev hbmTy (i : Nat) : BufTy := match i / 128 with
  | 0 => hbmTy0_0 i
  | 1 => hbmTy0_1 i
  | 2 => hbmTy0_2 i
  | 3 => hbmTy0_3 i
  | _ => ⟨S1x102400x8, .f32⟩

abbrev bufTy : (tb : Table) → Fin (tcTables nBuf tb) → BufTy
  | .hbm, ⟨i, _⟩ => hbmTy i
  | _, _ => ⟨S1x102400x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_cst : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v9 : Ref sig .tc := ⟨.hbm, 68, rfl⟩
abbrev main_v10 : Ref sig .tc := ⟨.hbm, 69, rfl⟩
abbrev main_v11 : Ref sig .tc := ⟨.hbm, 70, rfl⟩
abbrev main_v12 : Ref sig .tc := ⟨.hbm, 71, rfl⟩
abbrev main_cst_0 : Ref sig .tc := ⟨.hbm, 72, rfl⟩
abbrev main_v13 : Ref sig .tc := ⟨.hbm, 73, rfl⟩
abbrev main_v14 : Ref sig .tc := ⟨.hbm, 74, rfl⟩
abbrev main_v15 : Ref sig .tc := ⟨.hbm, 75, rfl⟩
abbrev main_cst_1 : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_call2_cst : Ref sig .tc := ⟨.hbm, 92, rfl⟩
abbrev main_call2_v0 : Ref sig .tc := ⟨.hbm, 93, rfl⟩
abbrev main_call2_v1 : Ref sig .tc := ⟨.hbm, 94, rfl⟩
abbrev main_call2_cst_0 : Ref sig .tc := ⟨.hbm, 95, rfl⟩
abbrev main_call2_v2 : Ref sig .tc := ⟨.hbm, 96, rfl⟩
abbrev main_call2_v3 : Ref sig .tc := ⟨.hbm, 97, rfl⟩
abbrev main_call2_cst_1 : Ref sig .tc := ⟨.hbm, 98, rfl⟩
abbrev main_call2_call0_v0 : Ref sig .tc := ⟨.hbm, 99, rfl⟩
abbrev main_call2_call0_v1 : Ref sig .tc := ⟨.hbm, 100, rfl⟩
abbrev main_call2_v4 : Ref sig .tc := ⟨.hbm, 101, rfl⟩
abbrev main_call2_v5 : Ref sig .tc := ⟨.hbm, 102, rfl⟩
abbrev main_call2_cst_2 : Ref sig .tc := ⟨.hbm, 103, rfl⟩
abbrev main_call2_v6 : Ref sig .tc := ⟨.hbm, 104, rfl⟩
abbrev main_call2_v7 : Ref sig .tc := ⟨.hbm, 105, rfl⟩
abbrev main_v31 : Ref sig .tc := ⟨.hbm, 106, rfl⟩
abbrev main_v32 : Ref sig .tc := ⟨.hbm, 107, rfl⟩
abbrev main_v33 : Ref sig .tc := ⟨.hbm, 108, rfl⟩
abbrev main_call3_c : Ref sig .tc := ⟨.hbm, 109, rfl⟩
abbrev main_call3_v0 : Ref sig .tc := ⟨.hbm, 110, rfl⟩
abbrev main_call3_v1 : Ref sig .tc := ⟨.hbm, 111, rfl⟩
abbrev main_call3_c_0 : Ref sig .tc := ⟨.hbm, 112, rfl⟩
abbrev main_call3_v2 : Ref sig .tc := ⟨.hbm, 113, rfl⟩
abbrev main_call3_v3 : Ref sig .tc := ⟨.hbm, 114, rfl⟩
abbrev main_call3_v4 : Ref sig .tc := ⟨.hbm, 115, rfl⟩
abbrev main_call3_v5 : Ref sig .tc := ⟨.hbm, 116, rfl⟩
abbrev main_call3_c_1 : Ref sig .tc := ⟨.hbm, 117, rfl⟩
abbrev main_call3_c_2 : Ref sig .tc := ⟨.hbm, 118, rfl⟩
abbrev main_call3_v6 : Ref sig .tc := ⟨.hbm, 119, rfl⟩
abbrev main_call3_v7 : Ref sig .tc := ⟨.hbm, 120, rfl⟩
abbrev main_call3_v8 : Ref sig .tc := ⟨.hbm, 121, rfl⟩
abbrev main_call3_v9 : Ref sig .tc := ⟨.hbm, 122, rfl⟩
abbrev main_call3_v10 : Ref sig .tc := ⟨.hbm, 123, rfl⟩
abbrev main_call3_v11 : Ref sig .tc := ⟨.hbm, 124, rfl⟩
abbrev main_call3_c_3 : Ref sig .tc := ⟨.hbm, 125, rfl⟩
abbrev main_call3_v12 : Ref sig .tc := ⟨.hbm, 126, rfl⟩
abbrev main_call3_v13 : Ref sig .tc := ⟨.hbm, 127, rfl⟩
abbrev main_call3_v14 : Ref sig .tc := ⟨.hbm, 128, rfl⟩
abbrev main_call3_cst : Ref sig .tc := ⟨.hbm, 129, rfl⟩
abbrev main_call3_v15 : Ref sig .tc := ⟨.hbm, 130, rfl⟩
abbrev main_v34 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_cst_2 : Ref sig .tc := ⟨.hbm, 135, rfl⟩
abbrev main_v38 : Ref sig .tc := ⟨.hbm, 136, rfl⟩
abbrev main_v39 : Ref sig .tc := ⟨.hbm, 137, rfl⟩
abbrev main_v40 : Ref sig .tc := ⟨.hbm, 138, rfl⟩
abbrev main_call4_c : Ref sig .tc := ⟨.hbm, 139, rfl⟩
abbrev main_call4_v0 : Ref sig .tc := ⟨.hbm, 140, rfl⟩
abbrev main_call4_v1 : Ref sig .tc := ⟨.hbm, 141, rfl⟩
abbrev main_call4_c_0 : Ref sig .tc := ⟨.hbm, 142, rfl⟩
abbrev main_call4_v2 : Ref sig .tc := ⟨.hbm, 143, rfl⟩
abbrev main_call4_v3 : Ref sig .tc := ⟨.hbm, 144, rfl⟩
abbrev main_call4_v4 : Ref sig .tc := ⟨.hbm, 145, rfl⟩
abbrev main_call4_v5 : Ref sig .tc := ⟨.hbm, 146, rfl⟩
abbrev main_call4_c_1 : Ref sig .tc := ⟨.hbm, 147, rfl⟩
abbrev main_call4_c_2 : Ref sig .tc := ⟨.hbm, 148, rfl⟩
abbrev main_call4_v6 : Ref sig .tc := ⟨.hbm, 149, rfl⟩
abbrev main_call4_v7 : Ref sig .tc := ⟨.hbm, 150, rfl⟩
abbrev main_call4_v8 : Ref sig .tc := ⟨.hbm, 151, rfl⟩
abbrev main_call4_v9 : Ref sig .tc := ⟨.hbm, 152, rfl⟩
abbrev main_call4_v10 : Ref sig .tc := ⟨.hbm, 153, rfl⟩
abbrev main_call4_v11 : Ref sig .tc := ⟨.hbm, 154, rfl⟩
abbrev main_call4_c_3 : Ref sig .tc := ⟨.hbm, 155, rfl⟩
abbrev main_call4_v12 : Ref sig .tc := ⟨.hbm, 156, rfl⟩
abbrev main_call4_v13 : Ref sig .tc := ⟨.hbm, 157, rfl⟩
abbrev main_call4_v14 : Ref sig .tc := ⟨.hbm, 158, rfl⟩
abbrev main_call4_cst : Ref sig .tc := ⟨.hbm, 159, rfl⟩
abbrev main_call4_v15 : Ref sig .tc := ⟨.hbm, 160, rfl⟩
abbrev main_v41 : Ref sig .tc := ⟨.hbm, 161, rfl⟩
abbrev main_v42 : Ref sig .tc := ⟨.hbm, 162, rfl⟩
abbrev main_v43 : Ref sig .tc := ⟨.hbm, 163, rfl⟩
abbrev main_v44 : Ref sig .tc := ⟨.hbm, 164, rfl⟩
abbrev main_cst_3 : Ref sig .tc := ⟨.hbm, 165, rfl⟩
abbrev main_v45 : Ref sig .tc := ⟨.hbm, 166, rfl⟩
abbrev main_v46 : Ref sig .tc := ⟨.hbm, 167, rfl⟩
abbrev main_v47 : Ref sig .tc := ⟨.hbm, 168, rfl⟩
abbrev main_cst_4 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩
abbrev main_v60 : Ref sig .tc := ⟨.hbm, 182, rfl⟩
abbrev main_v61 : Ref sig .tc := ⟨.hbm, 183, rfl⟩
abbrev main_v62 : Ref sig .tc := ⟨.hbm, 184, rfl⟩
abbrev main_call5_cst : Ref sig .tc := ⟨.hbm, 185, rfl⟩
abbrev main_call5_v0 : Ref sig .tc := ⟨.hbm, 186, rfl⟩
abbrev main_call5_v1 : Ref sig .tc := ⟨.hbm, 187, rfl⟩
abbrev main_call5_cst_0 : Ref sig .tc := ⟨.hbm, 188, rfl⟩
abbrev main_call5_v2 : Ref sig .tc := ⟨.hbm, 189, rfl⟩
abbrev main_call5_v3 : Ref sig .tc := ⟨.hbm, 190, rfl⟩
abbrev main_call5_cst_1 : Ref sig .tc := ⟨.hbm, 191, rfl⟩
abbrev main_call5_call0_v0 : Ref sig .tc := ⟨.hbm, 192, rfl⟩
abbrev main_call5_call0_v1 : Ref sig .tc := ⟨.hbm, 193, rfl⟩
abbrev main_call5_v4 : Ref sig .tc := ⟨.hbm, 194, rfl⟩
abbrev main_call5_v5 : Ref sig .tc := ⟨.hbm, 195, rfl⟩
abbrev main_call5_cst_2 : Ref sig .tc := ⟨.hbm, 196, rfl⟩
abbrev main_call5_v6 : Ref sig .tc := ⟨.hbm, 197, rfl⟩
abbrev main_call5_v7 : Ref sig .tc := ⟨.hbm, 198, rfl⟩
abbrev main_v63 : Ref sig .tc := ⟨.hbm, 199, rfl⟩
abbrev main_v64 : Ref sig .tc := ⟨.hbm, 200, rfl⟩
abbrev main_v65 : Ref sig .tc := ⟨.hbm, 201, rfl⟩
abbrev main_call6_c : Ref sig .tc := ⟨.hbm, 202, rfl⟩
abbrev main_call6_v0 : Ref sig .tc := ⟨.hbm, 203, rfl⟩
abbrev main_call6_v1 : Ref sig .tc := ⟨.hbm, 204, rfl⟩
abbrev main_call6_c_0 : Ref sig .tc := ⟨.hbm, 205, rfl⟩
abbrev main_call6_v2 : Ref sig .tc := ⟨.hbm, 206, rfl⟩
abbrev main_call6_v3 : Ref sig .tc := ⟨.hbm, 207, rfl⟩
abbrev main_call6_v4 : Ref sig .tc := ⟨.hbm, 208, rfl⟩
abbrev main_call6_v5 : Ref sig .tc := ⟨.hbm, 209, rfl⟩
abbrev main_call6_c_1 : Ref sig .tc := ⟨.hbm, 210, rfl⟩
abbrev main_call6_c_2 : Ref sig .tc := ⟨.hbm, 211, rfl⟩
abbrev main_call6_v6 : Ref sig .tc := ⟨.hbm, 212, rfl⟩
abbrev main_call6_v7 : Ref sig .tc := ⟨.hbm, 213, rfl⟩
abbrev main_call6_v8 : Ref sig .tc := ⟨.hbm, 214, rfl⟩
abbrev main_call6_v9 : Ref sig .tc := ⟨.hbm, 215, rfl⟩
abbrev main_call6_v10 : Ref sig .tc := ⟨.hbm, 216, rfl⟩
abbrev main_call6_v11 : Ref sig .tc := ⟨.hbm, 217, rfl⟩
abbrev main_call6_c_3 : Ref sig .tc := ⟨.hbm, 218, rfl⟩
abbrev main_call6_v12 : Ref sig .tc := ⟨.hbm, 219, rfl⟩
abbrev main_call6_v13 : Ref sig .tc := ⟨.hbm, 220, rfl⟩
abbrev main_call6_v14 : Ref sig .tc := ⟨.hbm, 221, rfl⟩
abbrev main_call6_cst : Ref sig .tc := ⟨.hbm, 222, rfl⟩
abbrev main_call6_v15 : Ref sig .tc := ⟨.hbm, 223, rfl⟩
abbrev main_v66 : Ref sig .tc := ⟨.hbm, 224, rfl⟩
abbrev main_v67 : Ref sig .tc := ⟨.hbm, 225, rfl⟩
abbrev main_v68 : Ref sig .tc := ⟨.hbm, 226, rfl⟩
abbrev main_v69 : Ref sig .tc := ⟨.hbm, 227, rfl⟩
abbrev main_cst_5 : Ref sig .tc := ⟨.hbm, 228, rfl⟩
abbrev main_v70 : Ref sig .tc := ⟨.hbm, 229, rfl⟩
abbrev main_v71 : Ref sig .tc := ⟨.hbm, 230, rfl⟩
abbrev main_v72 : Ref sig .tc := ⟨.hbm, 231, rfl⟩
abbrev main_call7_c : Ref sig .tc := ⟨.hbm, 232, rfl⟩
abbrev main_call7_v0 : Ref sig .tc := ⟨.hbm, 233, rfl⟩
abbrev main_call7_v1 : Ref sig .tc := ⟨.hbm, 234, rfl⟩
abbrev main_call7_c_0 : Ref sig .tc := ⟨.hbm, 235, rfl⟩
abbrev main_call7_v2 : Ref sig .tc := ⟨.hbm, 236, rfl⟩
abbrev main_call7_v3 : Ref sig .tc := ⟨.hbm, 237, rfl⟩
abbrev main_call7_v4 : Ref sig .tc := ⟨.hbm, 238, rfl⟩
abbrev main_call7_v5 : Ref sig .tc := ⟨.hbm, 239, rfl⟩
abbrev main_call7_c_1 : Ref sig .tc := ⟨.hbm, 240, rfl⟩
abbrev main_call7_c_2 : Ref sig .tc := ⟨.hbm, 241, rfl⟩
abbrev main_call7_v6 : Ref sig .tc := ⟨.hbm, 242, rfl⟩
abbrev main_call7_v7 : Ref sig .tc := ⟨.hbm, 243, rfl⟩
abbrev main_call7_v8 : Ref sig .tc := ⟨.hbm, 244, rfl⟩
abbrev main_call7_v9 : Ref sig .tc := ⟨.hbm, 245, rfl⟩
abbrev main_call7_v10 : Ref sig .tc := ⟨.hbm, 246, rfl⟩
abbrev main_call7_v11 : Ref sig .tc := ⟨.hbm, 247, rfl⟩
abbrev main_call7_c_3 : Ref sig .tc := ⟨.hbm, 248, rfl⟩
abbrev main_call7_v12 : Ref sig .tc := ⟨.hbm, 249, rfl⟩
abbrev main_call7_v13 : Ref sig .tc := ⟨.hbm, 250, rfl⟩
abbrev main_call7_v14 : Ref sig .tc := ⟨.hbm, 251, rfl⟩
abbrev main_call7_cst : Ref sig .tc := ⟨.hbm, 252, rfl⟩
abbrev main_call7_v15 : Ref sig .tc := ⟨.hbm, 253, rfl⟩
abbrev main_v73 : Ref sig .tc := ⟨.hbm, 254, rfl⟩
abbrev main_v74 : Ref sig .tc := ⟨.hbm, 255, rfl⟩
abbrev main_v75 : Ref sig .tc := ⟨.hbm, 256, rfl⟩
abbrev main_v76 : Ref sig .tc := ⟨.hbm, 257, rfl⟩
abbrev main_cst_6 : Ref sig .tc := ⟨.hbm, 258, rfl⟩
abbrev main_v77 : Ref sig .tc := ⟨.hbm, 259, rfl⟩
abbrev main_v78 : Ref sig .tc := ⟨.hbm, 260, rfl⟩
abbrev main_v79 : Ref sig .tc := ⟨.hbm, 261, rfl⟩
abbrev main_cst_7 : Ref sig .tc := ⟨.hbm, 262, rfl⟩
abbrev main_v80 : Ref sig .tc := ⟨.hbm, 263, rfl⟩
abbrev main_v81 : Ref sig .tc := ⟨.hbm, 264, rfl⟩
abbrev main_v82 : Ref sig .tc := ⟨.hbm, 265, rfl⟩
abbrev main_v83 : Ref sig .tc := ⟨.hbm, 266, rfl⟩
abbrev main_v84 : Ref sig .tc := ⟨.hbm, 267, rfl⟩
abbrev main_v85 : Ref sig .tc := ⟨.hbm, 268, rfl⟩
abbrev main_v86 : Ref sig .tc := ⟨.hbm, 269, rfl⟩
abbrev main_v87 : Ref sig .tc := ⟨.hbm, 270, rfl⟩
abbrev main_v88 : Ref sig .tc := ⟨.hbm, 271, rfl⟩
abbrev main_v89 : Ref sig .tc := ⟨.hbm, 272, rfl⟩
abbrev main_v90 : Ref sig .tc := ⟨.hbm, 273, rfl⟩
abbrev main_v91 : Ref sig .tc := ⟨.hbm, 274, rfl⟩
abbrev main_v92 : Ref sig .tc := ⟨.hbm, 275, rfl⟩
abbrev main_v93 : Ref sig .tc := ⟨.hbm, 276, rfl⟩
abbrev main_v94 : Ref sig .tc := ⟨.hbm, 277, rfl⟩
abbrev main_call8_cst : Ref sig .tc := ⟨.hbm, 278, rfl⟩
abbrev main_call8_v0 : Ref sig .tc := ⟨.hbm, 279, rfl⟩
abbrev main_call8_v1 : Ref sig .tc := ⟨.hbm, 280, rfl⟩
abbrev main_call8_cst_0 : Ref sig .tc := ⟨.hbm, 281, rfl⟩
abbrev main_call8_v2 : Ref sig .tc := ⟨.hbm, 282, rfl⟩
abbrev main_call8_v3 : Ref sig .tc := ⟨.hbm, 283, rfl⟩
abbrev main_call8_cst_1 : Ref sig .tc := ⟨.hbm, 284, rfl⟩
abbrev main_call8_call0_v0 : Ref sig .tc := ⟨.hbm, 285, rfl⟩
abbrev main_call8_call0_v1 : Ref sig .tc := ⟨.hbm, 286, rfl⟩
abbrev main_call8_v4 : Ref sig .tc := ⟨.hbm, 287, rfl⟩
abbrev main_call8_v5 : Ref sig .tc := ⟨.hbm, 288, rfl⟩
abbrev main_call8_cst_2 : Ref sig .tc := ⟨.hbm, 289, rfl⟩
abbrev main_call8_v6 : Ref sig .tc := ⟨.hbm, 290, rfl⟩
abbrev main_call8_v7 : Ref sig .tc := ⟨.hbm, 291, rfl⟩
abbrev main_v95 : Ref sig .tc := ⟨.hbm, 292, rfl⟩
abbrev main_v96 : Ref sig .tc := ⟨.hbm, 293, rfl⟩
abbrev main_v97 : Ref sig .tc := ⟨.hbm, 294, rfl⟩
abbrev main_call9_c : Ref sig .tc := ⟨.hbm, 295, rfl⟩
abbrev main_call9_v0 : Ref sig .tc := ⟨.hbm, 296, rfl⟩
abbrev main_call9_v1 : Ref sig .tc := ⟨.hbm, 297, rfl⟩
abbrev main_call9_c_0 : Ref sig .tc := ⟨.hbm, 298, rfl⟩
abbrev main_call9_v2 : Ref sig .tc := ⟨.hbm, 299, rfl⟩
abbrev main_call9_v3 : Ref sig .tc := ⟨.hbm, 300, rfl⟩
abbrev main_call9_v4 : Ref sig .tc := ⟨.hbm, 301, rfl⟩
abbrev main_call9_v5 : Ref sig .tc := ⟨.hbm, 302, rfl⟩
abbrev main_call9_c_1 : Ref sig .tc := ⟨.hbm, 303, rfl⟩
abbrev main_call9_c_2 : Ref sig .tc := ⟨.hbm, 304, rfl⟩
abbrev main_call9_v6 : Ref sig .tc := ⟨.hbm, 305, rfl⟩
abbrev main_call9_v7 : Ref sig .tc := ⟨.hbm, 306, rfl⟩
abbrev main_call9_v8 : Ref sig .tc := ⟨.hbm, 307, rfl⟩
abbrev main_call9_v9 : Ref sig .tc := ⟨.hbm, 308, rfl⟩
abbrev main_call9_v10 : Ref sig .tc := ⟨.hbm, 309, rfl⟩
abbrev main_call9_v11 : Ref sig .tc := ⟨.hbm, 310, rfl⟩
abbrev main_call9_c_3 : Ref sig .tc := ⟨.hbm, 311, rfl⟩
abbrev main_call9_v12 : Ref sig .tc := ⟨.hbm, 312, rfl⟩
abbrev main_call9_v13 : Ref sig .tc := ⟨.hbm, 313, rfl⟩
abbrev main_call9_v14 : Ref sig .tc := ⟨.hbm, 314, rfl⟩
abbrev main_call9_cst : Ref sig .tc := ⟨.hbm, 315, rfl⟩
abbrev main_call9_v15 : Ref sig .tc := ⟨.hbm, 316, rfl⟩
abbrev main_v98 : Ref sig .tc := ⟨.hbm, 317, rfl⟩
abbrev main_v99 : Ref sig .tc := ⟨.hbm, 318, rfl⟩
abbrev main_v100 : Ref sig .tc := ⟨.hbm, 319, rfl⟩
abbrev main_v101 : Ref sig .tc := ⟨.hbm, 320, rfl⟩
abbrev main_cst_8 : Ref sig .tc := ⟨.hbm, 321, rfl⟩
abbrev main_v102 : Ref sig .tc := ⟨.hbm, 322, rfl⟩
abbrev main_v103 : Ref sig .tc := ⟨.hbm, 323, rfl⟩
abbrev main_v104 : Ref sig .tc := ⟨.hbm, 324, rfl⟩
abbrev main_call10_c : Ref sig .tc := ⟨.hbm, 325, rfl⟩
abbrev main_call10_v0 : Ref sig .tc := ⟨.hbm, 326, rfl⟩
abbrev main_call10_v1 : Ref sig .tc := ⟨.hbm, 327, rfl⟩
abbrev main_call10_c_0 : Ref sig .tc := ⟨.hbm, 328, rfl⟩
abbrev main_call10_v2 : Ref sig .tc := ⟨.hbm, 329, rfl⟩
abbrev main_call10_v3 : Ref sig .tc := ⟨.hbm, 330, rfl⟩
abbrev main_call10_v4 : Ref sig .tc := ⟨.hbm, 331, rfl⟩
abbrev main_call10_v5 : Ref sig .tc := ⟨.hbm, 332, rfl⟩
abbrev main_call10_c_1 : Ref sig .tc := ⟨.hbm, 333, rfl⟩
abbrev main_call10_c_2 : Ref sig .tc := ⟨.hbm, 334, rfl⟩
abbrev main_call10_v6 : Ref sig .tc := ⟨.hbm, 335, rfl⟩
abbrev main_call10_v7 : Ref sig .tc := ⟨.hbm, 336, rfl⟩
abbrev main_call10_v8 : Ref sig .tc := ⟨.hbm, 337, rfl⟩
abbrev main_call10_v9 : Ref sig .tc := ⟨.hbm, 338, rfl⟩
abbrev main_call10_v10 : Ref sig .tc := ⟨.hbm, 339, rfl⟩
abbrev main_call10_v11 : Ref sig .tc := ⟨.hbm, 340, rfl⟩
abbrev main_call10_c_3 : Ref sig .tc := ⟨.hbm, 341, rfl⟩
abbrev main_call10_v12 : Ref sig .tc := ⟨.hbm, 342, rfl⟩
abbrev main_call10_v13 : Ref sig .tc := ⟨.hbm, 343, rfl⟩
abbrev main_call10_v14 : Ref sig .tc := ⟨.hbm, 344, rfl⟩
abbrev main_call10_cst : Ref sig .tc := ⟨.hbm, 345, rfl⟩
abbrev main_call10_v15 : Ref sig .tc := ⟨.hbm, 346, rfl⟩
abbrev main_v105 : Ref sig .tc := ⟨.hbm, 347, rfl⟩
abbrev main_v106 : Ref sig .tc := ⟨.hbm, 348, rfl⟩
abbrev main_v107 : Ref sig .tc := ⟨.hbm, 349, rfl⟩
abbrev main_v108 : Ref sig .tc := ⟨.hbm, 350, rfl⟩
abbrev main_cst_9 : Ref sig .tc := ⟨.hbm, 351, rfl⟩
abbrev main_v109 : Ref sig .tc := ⟨.hbm, 352, rfl⟩
abbrev main_v110 : Ref sig .tc := ⟨.hbm, 353, rfl⟩
abbrev main_v111 : Ref sig .tc := ⟨.hbm, 354, rfl⟩
abbrev main_cst_10 : Ref sig .tc := ⟨.hbm, 355, rfl⟩
abbrev main_v112 : Ref sig .tc := ⟨.hbm, 356, rfl⟩
abbrev main_v113 : Ref sig .tc := ⟨.hbm, 357, rfl⟩
abbrev main_v114 : Ref sig .tc := ⟨.hbm, 358, rfl⟩
abbrev main_v115 : Ref sig .tc := ⟨.hbm, 359, rfl⟩
abbrev main_v116 : Ref sig .tc := ⟨.hbm, 360, rfl⟩
abbrev main_v117 : Ref sig .tc := ⟨.hbm, 361, rfl⟩
abbrev main_v118 : Ref sig .tc := ⟨.hbm, 362, rfl⟩
abbrev main_v119 : Ref sig .tc := ⟨.hbm, 363, rfl⟩
abbrev main_v120 : Ref sig .tc := ⟨.hbm, 364, rfl⟩
abbrev main_v121 : Ref sig .tc := ⟨.hbm, 365, rfl⟩
abbrev main_v122 : Ref sig .tc := ⟨.hbm, 366, rfl⟩
abbrev main_v123 : Ref sig .tc := ⟨.hbm, 367, rfl⟩
abbrev main_v124 : Ref sig .tc := ⟨.hbm, 368, rfl⟩
abbrev main_v125 : Ref sig .tc := ⟨.hbm, 369, rfl⟩
abbrev main_v126 : Ref sig .tc := ⟨.hbm, 370, rfl⟩
abbrev main_call11_cst : Ref sig .tc := ⟨.hbm, 371, rfl⟩
abbrev main_call11_v0 : Ref sig .tc := ⟨.hbm, 372, rfl⟩
abbrev main_call11_v1 : Ref sig .tc := ⟨.hbm, 373, rfl⟩
abbrev main_call11_cst_0 : Ref sig .tc := ⟨.hbm, 374, rfl⟩
abbrev main_call11_v2 : Ref sig .tc := ⟨.hbm, 375, rfl⟩
abbrev main_call11_v3 : Ref sig .tc := ⟨.hbm, 376, rfl⟩
abbrev main_call11_cst_1 : Ref sig .tc := ⟨.hbm, 377, rfl⟩
abbrev main_call11_call0_v0 : Ref sig .tc := ⟨.hbm, 378, rfl⟩
abbrev main_call11_call0_v1 : Ref sig .tc := ⟨.hbm, 379, rfl⟩
abbrev main_call11_v4 : Ref sig .tc := ⟨.hbm, 380, rfl⟩
abbrev main_call11_v5 : Ref sig .tc := ⟨.hbm, 381, rfl⟩
abbrev main_call11_cst_2 : Ref sig .tc := ⟨.hbm, 382, rfl⟩
abbrev main_call11_v6 : Ref sig .tc := ⟨.hbm, 383, rfl⟩
abbrev main_call11_v7 : Ref sig .tc := ⟨.hbm, 384, rfl⟩
abbrev main_v127 : Ref sig .tc := ⟨.hbm, 385, rfl⟩
abbrev main_v128 : Ref sig .tc := ⟨.hbm, 386, rfl⟩
abbrev main_v129 : Ref sig .tc := ⟨.hbm, 387, rfl⟩
abbrev main_call12_c : Ref sig .tc := ⟨.hbm, 388, rfl⟩
abbrev main_call12_v0 : Ref sig .tc := ⟨.hbm, 389, rfl⟩
abbrev main_call12_v1 : Ref sig .tc := ⟨.hbm, 390, rfl⟩
abbrev main_call12_c_0 : Ref sig .tc := ⟨.hbm, 391, rfl⟩
abbrev main_call12_v2 : Ref sig .tc := ⟨.hbm, 392, rfl⟩
abbrev main_call12_v3 : Ref sig .tc := ⟨.hbm, 393, rfl⟩
abbrev main_call12_v4 : Ref sig .tc := ⟨.hbm, 394, rfl⟩
abbrev main_call12_v5 : Ref sig .tc := ⟨.hbm, 395, rfl⟩
abbrev main_call12_c_1 : Ref sig .tc := ⟨.hbm, 396, rfl⟩
abbrev main_call12_c_2 : Ref sig .tc := ⟨.hbm, 397, rfl⟩
abbrev main_call12_v6 : Ref sig .tc := ⟨.hbm, 398, rfl⟩
abbrev main_call12_v7 : Ref sig .tc := ⟨.hbm, 399, rfl⟩
abbrev main_call12_v8 : Ref sig .tc := ⟨.hbm, 400, rfl⟩
abbrev main_call12_v9 : Ref sig .tc := ⟨.hbm, 401, rfl⟩
abbrev main_call12_v10 : Ref sig .tc := ⟨.hbm, 402, rfl⟩
abbrev main_call12_v11 : Ref sig .tc := ⟨.hbm, 403, rfl⟩
abbrev main_call12_c_3 : Ref sig .tc := ⟨.hbm, 404, rfl⟩
abbrev main_call12_v12 : Ref sig .tc := ⟨.hbm, 405, rfl⟩
abbrev main_call12_v13 : Ref sig .tc := ⟨.hbm, 406, rfl⟩
abbrev main_call12_v14 : Ref sig .tc := ⟨.hbm, 407, rfl⟩
abbrev main_call12_cst : Ref sig .tc := ⟨.hbm, 408, rfl⟩
abbrev main_call12_v15 : Ref sig .tc := ⟨.hbm, 409, rfl⟩
abbrev main_v130 : Ref sig .tc := ⟨.hbm, 410, rfl⟩
abbrev main_v131 : Ref sig .tc := ⟨.hbm, 411, rfl⟩
abbrev main_v132 : Ref sig .tc := ⟨.hbm, 412, rfl⟩
abbrev main_v133 : Ref sig .tc := ⟨.hbm, 413, rfl⟩
abbrev main_cst_11 : Ref sig .tc := ⟨.hbm, 414, rfl⟩
abbrev main_v134 : Ref sig .tc := ⟨.hbm, 415, rfl⟩
abbrev main_v135 : Ref sig .tc := ⟨.hbm, 416, rfl⟩
abbrev main_v136 : Ref sig .tc := ⟨.hbm, 417, rfl⟩
abbrev main_call13_c : Ref sig .tc := ⟨.hbm, 418, rfl⟩
abbrev main_call13_v0 : Ref sig .tc := ⟨.hbm, 419, rfl⟩
abbrev main_call13_v1 : Ref sig .tc := ⟨.hbm, 420, rfl⟩
abbrev main_call13_c_0 : Ref sig .tc := ⟨.hbm, 421, rfl⟩
abbrev main_call13_v2 : Ref sig .tc := ⟨.hbm, 422, rfl⟩
abbrev main_call13_v3 : Ref sig .tc := ⟨.hbm, 423, rfl⟩
abbrev main_call13_v4 : Ref sig .tc := ⟨.hbm, 424, rfl⟩
abbrev main_call13_v5 : Ref sig .tc := ⟨.hbm, 425, rfl⟩
abbrev main_call13_c_1 : Ref sig .tc := ⟨.hbm, 426, rfl⟩
abbrev main_call13_c_2 : Ref sig .tc := ⟨.hbm, 427, rfl⟩
abbrev main_call13_v6 : Ref sig .tc := ⟨.hbm, 428, rfl⟩
abbrev main_call13_v7 : Ref sig .tc := ⟨.hbm, 429, rfl⟩
abbrev main_call13_v8 : Ref sig .tc := ⟨.hbm, 430, rfl⟩
abbrev main_call13_v9 : Ref sig .tc := ⟨.hbm, 431, rfl⟩
abbrev main_call13_v10 : Ref sig .tc := ⟨.hbm, 432, rfl⟩
abbrev main_call13_v11 : Ref sig .tc := ⟨.hbm, 433, rfl⟩
abbrev main_call13_c_3 : Ref sig .tc := ⟨.hbm, 434, rfl⟩
abbrev main_call13_v12 : Ref sig .tc := ⟨.hbm, 435, rfl⟩
abbrev main_call13_v13 : Ref sig .tc := ⟨.hbm, 436, rfl⟩
abbrev main_call13_v14 : Ref sig .tc := ⟨.hbm, 437, rfl⟩
abbrev main_call13_cst : Ref sig .tc := ⟨.hbm, 438, rfl⟩
abbrev main_call13_v15 : Ref sig .tc := ⟨.hbm, 439, rfl⟩
abbrev main_v137 : Ref sig .tc := ⟨.hbm, 440, rfl⟩
abbrev main_v138 : Ref sig .tc := ⟨.hbm, 441, rfl⟩
abbrev main_v139 : Ref sig .tc := ⟨.hbm, 442, rfl⟩
abbrev main_v140 : Ref sig .tc := ⟨.hbm, 443, rfl⟩
abbrev main_cst_12 : Ref sig .tc := ⟨.hbm, 444, rfl⟩
abbrev main_v141 : Ref sig .tc := ⟨.hbm, 445, rfl⟩
abbrev main_v142 : Ref sig .tc := ⟨.hbm, 446, rfl⟩
abbrev main_v143 : Ref sig .tc := ⟨.hbm, 447, rfl⟩
abbrev main_cst_13 : Ref sig .tc := ⟨.hbm, 448, rfl⟩
abbrev main_v144 : Ref sig .tc := ⟨.hbm, 449, rfl⟩
abbrev main_v145 : Ref sig .tc := ⟨.hbm, 450, rfl⟩
abbrev main_v146 : Ref sig .tc := ⟨.hbm, 451, rfl⟩
abbrev main_v147 : Ref sig .tc := ⟨.hbm, 452, rfl⟩
abbrev main_v148 : Ref sig .tc := ⟨.hbm, 453, rfl⟩
abbrev main_v149 : Ref sig .tc := ⟨.hbm, 454, rfl⟩
abbrev main_v150 : Ref sig .tc := ⟨.hbm, 455, rfl⟩
abbrev main_v151 : Ref sig .tc := ⟨.hbm, 456, rfl⟩
abbrev main_v152 : Ref sig .tc := ⟨.hbm, 457, rfl⟩
abbrev main_v153 : Ref sig .tc := ⟨.hbm, 458, rfl⟩
abbrev main_v154 : Ref sig .tc := ⟨.hbm, 459, rfl⟩
abbrev main_v155 : Ref sig .tc := ⟨.hbm, 460, rfl⟩
abbrev main_v156 : Ref sig .tc := ⟨.hbm, 461, rfl⟩
abbrev main_v157 : Ref sig .tc := ⟨.hbm, 462, rfl⟩
abbrev main_v158 : Ref sig .tc := ⟨.hbm, 463, rfl⟩

abbrev nD : Nat := 1
abbrev τ : Topo := Topo.v7x

variable {F : FTy → Type} [FloatOps F]
-- ==== Proof.Spec.lean ====
module

public import Idealize.ShloMosaic.Lib.Pointwise

@[expose] public section

noncomputable section

/-! The network over the extended reals: the grid's row factors, one Chebyshev layer of order two on fields over the grid,
    and the same layer's sparse product as a sum over the edge list. -/

namespace Cert.Grid

open Idealize.ShloMosaic

/-- `1 / √degree` of a node of row `r`: three neighbours on the first and the last row, four between; `0` off the grid. -/
def dRow (r : ℤ) : ℝ := if r < 0 ∨ 319 < r then 0 else if r = 0 ∨ r = 319 then (Real.sqrt 3)⁻¹ else 1 / 2

theorem dRow_nonneg (r : ℤ) : 0 ≤ dRow r := by unfold dRow; split_ifs <;> positivity

/-- A field over the grid: its value at a row, a channel and a column. -/
abbrev Field := ℤ → ℕ → ℕ → EReal

/-- The sum over the four neighbours of `(r, l)`: the columns wrap around, the rows do not. -/
def sten (y : ℤ → ℕ → EReal) (r : ℤ) (l : ℕ) : EReal :=
  y r ((l + 1) % 320) + y r ((l + 319) % 320) + y (r - 1) l + y (r + 1) l

/-- The scaled Laplacian applied to a field. -/
def c1 (x : Field) : Field := fun r k l => ((-dRow r : ℝ) : EReal) * sten (fun r l => (dRow r : EReal) * x r k l) r l

/-- The second Chebyshev polynomial of the scaled Laplacian applied to a field, as the kernel associates it. -/
def c2 (x : Field) : Field := fun r k l =>
  ((-2 * dRow r : ℝ) : EReal) * sten (fun r l => ((-dRow r * dRow r : ℝ) : EReal) * sten (fun r l => (dRow r : EReal) * x r k l) r l) r l - x r k l

theorem c2_eq (x : Field) (r : ℤ) (k l : ℕ) : c2 x r k l = ((2 : ℝ) : EReal) * c1 (c1 x) r k l - x r k l := by
  have h : ∀ r : ℤ, ((-dRow r * dRow r : ℝ) : EReal) = (dRow r : EReal) * ((-dRow r : ℝ) : EReal) := fun r => by rw [mul_comm, EReal.coe_mul]
  have h2 : ((-2 * dRow r : ℝ) : EReal) = ((2 : ℝ) : EReal) * ((-dRow r : ℝ) : EReal) := by rw [← EReal.coe_mul]; congr 1; ring
  simp only [c2, c1, h, h2, mul_assoc]

/-- One layer without its activation: the three polynomials' channels through their weights, and the bias. -/
def lin (f : ℕ) (w : ℕ → ℕ → ℕ → EReal) (b : ℕ → EReal) (x : Field) : Field := fun r o l =>
  ((∑ k ∈ Finset.range f, w 0 k o * x r k l) + (∑ k ∈ Finset.range f, w 1 k o * c1 x r k l)
    + ∑ k ∈ Finset.range f, w 2 k o * c2 x r k l) + b o

/-- The exponential linear unit. -/
def elu (a : EReal) : EReal := if 0 < a then a else Ideal.exp (min a 0) - 1

/-- One layer with its activation. -/
def act (f : ℕ) (w : ℕ → ℕ → ℕ → EReal) (b : ℕ → EReal) (x : Field) : Field := fun r o l => elu (lin f w b x r o l)

/-- Two fields agree on the grid. -/
def Agree (x y : Field) : Prop := ∀ r k l, 0 ≤ r → r ≤ 319 → x r k l = y r k l

theorem Agree.mul {x y : Field} (h : Agree x y) (r : ℤ) (k l : ℕ) : (dRow r : EReal) * x r k l = (dRow r : EReal) * y r k l := by
  by_cases h0 : 0 ≤ r
  · by_cases h1 : r ≤ 319
    · rw [h r k l h0 h1]
    · rw [dRow, if_pos (Or.inr (by omega))]; simp
  · rw [dRow, if_pos (Or.inl (by omega))]; simp

/-! ## Sums whose terms are infinite of one sign only -/

/-- A real factor goes through a sum whose two terms both differ from the same infinity. -/
theorem coe_mul_add (t : ℝ) {s a b : EReal} (hs : s = ⊥ ∨ s = ⊤) (ha : a ≠ s) (hb : b ≠ s) : (t : EReal) * (a + b) = t * a + t * b := by
  rcases le_total 0 t with h | h
  · exact EReal.left_distrib_of_nonneg_of_ne_top (EReal.coe_nonneg.2 h) (EReal.coe_ne_top t) a b
  · have e : (t : EReal) = -((-t : ℝ) : EReal) := by rw [EReal.coe_neg, neg_neg]
    have hn : (0 : EReal) ≤ ((-t : ℝ) : EReal) := EReal.coe_nonneg.2 (by linarith)
    have hd : -(a + b) = -a + -b := by
      rcases hs with rfl | rfl
      · exact EReal.neg_add (Or.inl ha) (Or.inr hb)
      · exact EReal.neg_add (Or.inr hb) (Or.inl ha)
    rw [e, neg_mul, neg_mul, neg_mul, ← mul_neg, hd, EReal.left_distrib_of_nonneg_of_ne_top hn (EReal.coe_ne_top _), mul_neg, mul_neg]

theorem add_ne {s a b : EReal} (hs : s = ⊥ ∨ s = ⊤) (ha : a ≠ s) (hb : b ≠ s) : a + b ≠ s := by
  rcases hs with rfl | rfl
  · exact EReal.add_ne_bot_iff.2 ⟨ha, hb⟩
  · exact EReal.add_ne_top ha hb

/-- A nonnegative real times a number is not an infinity that the number is not. -/
theorem coe_mul_ne {t : ℝ} (ht : 0 ≤ t) {s a : EReal} (hs : s = ⊥ ∨ s = ⊤) (ha : a ≠ s) : (t : EReal) * a ≠ s := by
  rcases ht.eq_or_lt with rfl | ht
  · rcases hs with rfl | rfl <;> simp
  · induction a with
    | bot => rw [EReal.coe_mul_bot_of_pos ht]; exact ha
    | top => rw [EReal.coe_mul_top_of_pos ht]; exact ha
    | coe a => rw [← EReal.coe_mul]; rcases hs with rfl | rfl; exacts [EReal.coe_ne_bot _, EReal.coe_ne_top _]

/-- No channel of the field holds infinities of both signs. -/
def Sided (x : Field) : Prop := ∀ k, (∀ r l, x r k l ≠ ⊥) ∨ (∀ r l, x r k l ≠ ⊤)

/-- A field that differs from one infinity in a channel gives a scaled Laplacian that differs from the other. -/
theorem c1_ne {x : Field} {k : ℕ} {s : EReal} (hs : s = ⊥ ∨ s = ⊤) (h : ∀ r l, x r k l ≠ s) (r : ℤ) (l : ℕ) : c1 x r k l ≠ -s := by
  have hm : ∀ r l, (dRow r : EReal) * x r k l ≠ s := fun r l => coe_mul_ne (dRow_nonneg r) hs (h r l)
  have h4 := coe_mul_ne (dRow_nonneg r) hs (add_ne hs (add_ne hs (add_ne hs (hm r ((l + 1) % 320)) (hm r ((l + 319) % 320))) (hm (r - 1) l)) (hm (r + 1) l))
  intro e
  refine h4 ?_
  rw [c1, sten, EReal.coe_neg, neg_mul] at e
  exact neg_inj.1 e

theorem Sided.c1 {x : Field} (h : Sided x) : Sided (c1 x) := fun k => by
  rcases h k with h | h
  · exact Or.inr fun r l => c1_ne (Or.inl rfl) h r l
  · exact Or.inl fun r l => c1_ne (Or.inr rfl) h r l

theorem elu_ne_bot (a : EReal) : elu a ≠ ⊥ := by
  unfold elu
  split_ifs with h
  · exact (bot_lt_iff_ne_bot.1 (lt_trans (EReal.bot_lt_zero) h))
  · have he : ∀ b : EReal, Ideal.exp b ≠ ⊥ := fun b => by
      induction b with
      | bot => exact EReal.zero_ne_bot
      | top => exact top_ne_bot
      | coe b => exact EReal.coe_ne_bot _
    rw [sub_eq_add_neg]
    exact EReal.add_ne_bot_iff.2 ⟨he _, by decide⟩

/-- A layer's activation is nowhere `-∞`. -/
theorem act_sided (f : ℕ) (w : ℕ → ℕ → ℕ → EReal) (b : ℕ → EReal) (x : Field) : Sided (act f w b x) :=
  fun _ => Or.inl fun _ _ => elu_ne_bot _

/-! ## Dependence on the grid only -/

/-- What a layer gives on the grid depends only on what its input is on the grid. -/
theorem lin_agree {x y : Field} (h : Agree x y) (f : ℕ) (w : ℕ → ℕ → ℕ → EReal) (b : ℕ → EReal) :
    Agree (lin f w b x) (lin f w b y) := by
  intro r o l h0 h1
  have e1 : ∀ k, c1 x r k l = c1 y r k l := fun k => by simp only [c1, h.mul]
  have e2 : ∀ k, c2 x r k l = c2 y r k l := fun k => by simp only [c2, h.mul, h r _ _ h0 h1]
  simp only [lin, e1, e2, h r _ _ h0 h1]

theorem act_agree {x y : Field} (h : Agree x y) (f : ℕ) (w : ℕ → ℕ → ℕ → EReal) (b : ℕ → EReal) :
    Agree (act f w b x) (act f w b y) := fun r o l h0 h1 => congrArg elu (lin_agree h f w b r o l h0 h1)

theorem Agree.trans {x y z : Field} (h : Agree x y) (h' : Agree y z) : Agree x z :=
  fun r k l h0 h1 => (h r k l h0 h1).trans (h' r k l h0 h1)

/-! ## The edge list -/

/-- The node east of node `n`. -/
def eastN (n : ℕ) : ℕ := if n % 320 = 319 then n - 319 else n + 1

/-- Edge `e`'s source. -/
def rowN (e : ℕ) : ℕ :=
  if e < 102400 then e else if e < 204800 then eastN (e - 102400) else if e < 306880 then e - 204800 else e - 306880 + 320

/-- Edge `e`'s target. -/
def colN (e : ℕ) : ℕ :=
  if e < 102400 then eastN e else if e < 204800 then e - 102400 else if e < 306880 then e - 204800 + 320 else e - 306880

/-- Edge `e`'s weight. -/
def valN (e : ℕ) : ℝ := -dRow ((rowN e / 320 : ℕ) : ℤ) * dRow ((colN e / 320 : ℕ) : ℤ)

theorem rowN_lt {e : ℕ} (h : e < 408960) : rowN e < 102400 := by
  unfold rowN eastN; split_ifs <;> omega

theorem colN_lt {e : ℕ} (h : e < 408960) : colN e < 102400 := by
  unfold colN eastN; split_ifs <;> omega

/-- A sum over the edges that leave node `n`, by the four blocks of the list. -/
theorem edge_sum (h : ℕ → EReal) {n : ℕ} (hn : n < 102400) :
    (∑ e ∈ Finset.range 408960, if rowN e = n then h e else 0)
      = h n + h (102400 + if n % 320 = 0 then n + 319 else n - 1)
        + (if n < 102080 then h (204800 + n) else 0) + (if 320 ≤ n then h (306880 + (n - 320)) else 0) := by
  have s1 := Finset.sum_range_add (fun e => if rowN e = n then h e else 0) 306880 102080
  have s2 := Finset.sum_range_add (fun e => if rowN e = n then h e else 0) 204800 102080
  have s3 := Finset.sum_range_add (fun e => if rowN e = n then h e else 0) 102400 102400
  norm_num only at s1 s2 s3
  rw [s1, s2, s3]
  have a0 : (∑ e ∈ Finset.range 102400, if rowN e = n then h e else 0) = h n := by
    rw [Finset.sum_eq_single n]
    · rw [if_pos]; rw [rowN, if_pos hn]
    · intro e he hne; rw [if_neg]; rw [rowN, if_pos (Finset.mem_range.1 he)]; exact hne
    · intro hh; exact absurd (Finset.mem_range.2 hn) hh
  have a1 : (∑ e ∈ Finset.range 102400, if rowN (102400 + e) = n then h (102400 + e) else 0)
      = h (102400 + if n % 320 = 0 then n + 319 else n - 1) := by
    rw [Finset.sum_eq_single (if n % 320 = 0 then n + 319 else n - 1)]
    · rw [if_pos]; unfold rowN eastN; split_ifs <;> omega
    · intro e he hne
      have he := Finset.mem_range.1 he
      rw [if_neg]; unfold rowN eastN
      intro hh; apply hne; split_ifs at hh ⊢ <;> omega
    · intro hh; exact absurd (Finset.mem_range.2 (by split_ifs <;> omega)) hh
  have a2 : (∑ e ∈ Finset.range 102080, if rowN (204800 + e) = n then h (204800 + e) else 0)
      = if n < 102080 then h (204800 + n) else 0 := by
    have hr : ∀ e ∈ Finset.range 102080, rowN (204800 + e) = e := fun e he => by
      have he := Finset.mem_range.1 he
      unfold rowN eastN; split_ifs <;> omega
    rw [Finset.sum_congr rfl fun e he => by rw [hr e he], Finset.sum_ite_eq']
    simp only [Finset.mem_range]
  have a3 : (∑ e ∈ Finset.range 102080, if rowN (306880 + e) = n then h (306880 + e) else 0)
      = if 320 ≤ n then h (306880 + (n - 320)) else 0 := by
    have hr : ∀ e ∈ Finset.range 102080, rowN (306880 + e) = e + 320 := fun e he => by
      have he := Finset.mem_range.1 he
      unfold rowN eastN; split_ifs <;> omega
    rw [Finset.sum_congr rfl fun e he => by rw [hr e he]]
    split_ifs with h3
    · rw [Finset.sum_eq_single (n - 320)]
      · rw [if_pos (by omega)]
      · intro e he hne; rw [if_neg (by omega)]
      · intro hh; exact absurd (Finset.mem_range.2 (by omega)) hh
    · exact Finset.sum_eq_zero fun e he => if_neg (by omega)
  rw [a0, a1, a2, a3]

/-- The sparse product over the edge list is the stencil. -/
theorem edge_c1 {x : Field} (hx : Sided x) (k : ℕ) {n : ℕ} (hn : n < 102400) :
    (∑ e ∈ Finset.range 408960, if rowN e = n then x ((colN e / 320 : ℕ) : ℤ) k (colN e % 320) * (valN e : EReal) else 0)
      = c1 x ((n / 320 : ℕ) : ℤ) k (n % 320) := by
  have hr := edge_sum (fun e => x ((colN e / 320 : ℕ) : ℤ) k (colN e % 320) * (valN e : EReal)) hn
  rw [hr]
  clear hr
  obtain ⟨r, l, hl, rfl⟩ : ∃ r l, l < 320 ∧ n = 320 * r + l := ⟨n / 320, n % 320, Nat.mod_lt _ (by norm_num), by omega⟩
  have hr : r < 320 := by omega
  have t0 : rowN (320 * r + l) = 320 * r + l := by unfold rowN; rw [if_pos hn]
  have t0' : colN (320 * r + l) = 320 * r + (l + 1) % 320 := by
    unfold colN eastN; split_ifs <;> omega
  have hw : (if (320 * r + l) % 320 = 0 then 320 * r + l + 319 else 320 * r + l - 1) = 320 * r + (l + 319) % 320 := by
    split_ifs <;> omega
  have t1 : rowN (102400 + (320 * r + (l + 319) % 320)) = 320 * r + l := by
    unfold rowN eastN; split_ifs <;> omega
  have t1' : colN (102400 + (320 * r + (l + 319) % 320)) = 320 * r + (l + 319) % 320 := by
    unfold colN eastN; split_ifs <;> omega
  have dv : ∀ a b : ℕ, b < 320 → (320 * a + b) / 320 = a := fun a b hb => by omega
  have md : ∀ a b : ℕ, b < 320 → (320 * a + b) % 320 = b := fun a b hb => by omega
  have m1 : (l + 1) % 320 < 320 := Nat.mod_lt _ (by norm_num)
  have m2 : (l + 319) % 320 < 320 := Nat.mod_lt _ (by norm_num)
  have e2 : (if 320 * r + l < 102080 then x ((colN (204800 + (320 * r + l)) / 320 : ℕ) : ℤ) k (colN (204800 + (320 * r + l)) % 320)
        * (valN (204800 + (320 * r + l)) : EReal) else 0) = x ((r : ℤ) + 1) k l * ((-dRow r * dRow ((r : ℤ) + 1) : ℝ) : EReal) := by
    split_ifs with h
    · have u : rowN (204800 + (320 * r + l)) = 320 * r + l := by unfold rowN eastN; split_ifs <;> omega
      have u' : colN (204800 + (320 * r + l)) = 320 * (r + 1) + l := by unfold colN eastN; split_ifs <;> omega
      rw [valN, u, u', dv _ _ hl, dv _ _ hl, md _ _ hl]; push_cast; rfl
    · have : dRow ((r : ℤ) + 1) = 0 := by rw [dRow, if_pos]; right; omega
      rw [this]; simp
  have e3 : (if 320 ≤ 320 * r + l then x ((colN (306880 + (320 * r + l - 320)) / 320 : ℕ) : ℤ) k
        (colN (306880 + (320 * r + l - 320)) % 320) * (valN (306880 + (320 * r + l - 320)) : EReal) else 0)
        = x ((r : ℤ) - 1) k l * ((-dRow r * dRow ((r : ℤ) - 1) : ℝ) : EReal) := by
    split_ifs with h
    · obtain ⟨q, rfl⟩ : ∃ q, r = q + 1 := ⟨r - 1, by omega⟩
      have u : rowN (306880 + (320 * (q + 1) + l - 320)) = 320 * (q + 1) + l := by unfold rowN eastN; split_ifs <;> omega
      have u' : colN (306880 + (320 * (q + 1) + l - 320)) = 320 * q + l := by unfold colN eastN; split_ifs <;> omega
      rw [valN, u, u', dv _ _ hl, dv _ _ hl, md _ _ hl]; push_cast
      rw [show ((q : ℤ) + 1 - 1) = q by ring]
    · have : dRow ((r : ℤ) - 1) = 0 := by rw [dRow, if_pos]; left; omega
      rw [this]; simp
  rw [hw, e2, e3, valN, valN, t0, t0', t1, t1']
  simp only [dv _ _ hl, dv _ _ m1, dv _ _ m2, md _ _ hl, md _ _ m1, md _ _ m2, c1, sten]
  obtain ⟨s, hs, h⟩ : ∃ s : EReal, (s = ⊥ ∨ s = ⊤) ∧ ∀ r l, x r k l ≠ s := by
    rcases hx k with h | h
    exacts [⟨_, Or.inl rfl, h⟩, ⟨_, Or.inr rfl, h⟩]
  have hm : ∀ r l, (dRow r : EReal) * x r k l ≠ s := fun r l => coe_mul_ne (dRow_nonneg r) hs (h r l)
  have hp : ∀ (a b : ℝ) (y : EReal), y * ((-a * b : ℝ) : EReal) = ((-a : ℝ) : EReal) * ((b : EReal) * y) := fun a b y => by
    rw [EReal.coe_mul, mul_comm, mul_assoc]
  rw [coe_mul_add _ hs (add_ne hs (add_ne hs (hm _ _) (hm _ _)) (hm _ _)) (hm _ _), coe_mul_add _ hs (add_ne hs (hm _ _) (hm _ _)) (hm _ _),
    coe_mul_add _ hs (hm _ _) (hm _ _)]
  simp only [hp]
  exact add_right_comm _ _ _

end Cert.Grid
-- ==== Proof.Stencil.lean ====
module

public import Idealize.ShloMosaic.Lib.Pointwise
public import Idealize.ShloMosaic.Lib.Pointwise.IndexVar
public import proofs.«01_k».proof.Proof.Spec

@[expose] public section

noncomputable section

/-! One Chebyshev step as the kernel writes it on a block of rows: the four shifted copies of a block, and the first and
    second polynomial on the rows two away from the block's edges, read over the extended reals. -/

namespace Cert.Grid

open Idealize.ShloMosaic

/-- A block of `n` rows of `f` channels of `c` columns. -/
abbrev B3 (n f c : ℕ) : Shape := ⟨3, ![n, f, c]⟩

/-- The side facts of the four shifts of a block of `n = m + 1` rows. -/
structure StOk (n m f : ℕ) : Prop where
  e1 : (B3 n f 320).Slices ![0, 0, 1] (B3 n f 319)
  e2 : (B3 n f 320).Slices ![0, 0, 0] (B3 n f 1)
  e3 : Shape.Concatenates [B3 n f 319, B3 n f 1] (B3 n f 320) 2
  w1 : (B3 n f 320).Slices ![0, 0, 319] (B3 n f 1)
  w2 : (B3 n f 320).Slices ![0, 0, 0] (B3 n f 319)
  w3 : Shape.Concatenates [B3 n f 1, B3 n f 319] (B3 n f 320) 2
  n1 : (B3 n f 320).Slices ![0, 0, 0] (B3 m f 320)
  n2 : Shape.Concatenates [B3 1 f 320, B3 m f 320] (B3 n f 320) 0
  s1 : (B3 n f 320).Slices ![1, 0, 0] (B3 m f 320)
  s2 : Shape.Concatenates [B3 m f 320, B3 1 f 320] (B3 n f 320) 0

/-- The sum of the block's four shifted copies. -/
def stv {n m f : ℕ} (h : StOk n m f) (y : FVec Ideal (B3 n f 320) .f32) : FVec Ideal (B3 n f 320) .f32 :=
  addf (addf (addf
    (concatenate (B3 n f 320) 2 [⟨B3 n f 319, extractStridedSlice _ ![0, 0, 1] y h.e1⟩, ⟨B3 n f 1, extractStridedSlice _ ![0, 0, 0] y h.e2⟩] h.e3)
    (concatenate (B3 n f 320) 2 [⟨B3 n f 1, extractStridedSlice _ ![0, 0, 319] y h.w1⟩, ⟨B3 n f 319, extractStridedSlice _ ![0, 0, 0] y h.w2⟩] h.w3))
    (concatenate (B3 n f 320) 0 [⟨B3 1 f 320, broadcast _ (Scalar.ofBits .f32 0x00000000#32)⟩, ⟨B3 m f 320, extractStridedSlice _ ![0, 0, 0] y h.n1⟩] h.n2))
    (concatenate (B3 n f 320) 0 [⟨B3 m f 320, extractStridedSlice _ ![1, 0, 0] y h.s1⟩, ⟨B3 1 f 320, broadcast _ (Scalar.ofBits .f32 0x00000000#32)⟩] h.s2)

theorem stv_apply {n m f : ℕ} (hm : n = m + 1) (h : StOk n m f) (y : FVec Ideal (B3 n f 320) .f32) (Y : Field) (base lo hi : ℤ)
    (hy : ∀ (a : Fin n) (k : Fin f) (l : Fin 320), lo ≤ (a : ℤ) → (a : ℤ) ≤ hi → y (ix3 a k l) = Y (base + a) k l)
    (a : Fin n) (k : Fin f) (l : Fin 320) (h0 : 0 < (a : ℕ)) (h0' : lo < (a : ℤ)) (h1 : (a : ℤ) < hi) (h1' : (a : ℕ) + 1 < n) :
    stv h y (ix3 a k l) = sten (fun r l => Y r k l) (base + a) l := by
  unfold stv
  pointwise
  have hl := l.isLt
  have e1 : (if h : (l : ℕ) < 319 then y (ix3 a k ⟨1 + (l : ℕ), by omega⟩) else y (ix3 a k ⟨(l : ℕ) - 319, by omega⟩))
      = (Y (base + a) k (((l : ℕ) + 1) % 320)) := by
    split_ifs with hc
    · rw [hy _ _ _ h0'.le h1.le]; simp only [show 1 + (l : ℕ) = ((l : ℕ) + 1) % 320 by omega]
    · rw [hy _ _ _ h0'.le h1.le]; simp only [show (l : ℕ) - 319 = ((l : ℕ) + 1) % 320 by omega]
  have e2 : (if h : (l : ℕ) < 1 then y (ix3 a k ⟨319 + (l : ℕ), by omega⟩) else y (ix3 a k ⟨(l : ℕ) - 1, by omega⟩))
      = (Y (base + a) k (((l : ℕ) + 319) % 320)) := by
    split_ifs with hc
    · rw [hy _ _ _ h0'.le h1.le]; simp only [show 319 + (l : ℕ) = ((l : ℕ) + 319) % 320 by omega]
    · rw [hy _ _ _ h0'.le h1.le]; simp only [show (l : ℕ) - 1 = ((l : ℕ) + 319) % 320 by omega]
  rw [e1, e2, dif_neg (by omega), dif_pos (by omega), hy _ _ _ (by simp only; omega) (by simp only; omega),
    hy _ _ _ (by simp only; omega) (by simp only; omega), sten]
  rw [show base + (((a : ℕ) - 1 : ℕ) : ℤ) = base + a - 1 by omega, show base + ((1 + (a : ℕ) : ℕ) : ℤ) = base + a + 1 by omega]

/-- The side facts of one Chebyshev step that takes `n` rows to the `p` rows two away from the edges. -/
structure ChOk (n m p f : ℕ) : Prop extends StOk n m f where
  b1 : (B3 n 1 1).Broadcasts (B3 n f 320)
  b2 : (B3 p 1 1).Broadcasts (B3 p f 320)
  dsl : (B3 n 1 1).Slices ![2, 0, 0] (B3 p 1 1)
  xsl : (B3 n f 320).Slices ![2, 0, 0] (B3 p f 320)

variable {n m p f : ℕ}

/-- The stencil of the scaled block. -/
def sv (h : ChOk n m p f) (d : FVec Ideal (B3 n 1 1) .f32) (X : FVec Ideal (B3 n f 320) .f32) : FVec Ideal (B3 n f 320) .f32 :=
  stv h.toStOk (mulf (broadcastTo (B3 n f 320) d h.b1) X)

/-- The first polynomial's block, scaled for the second stencil. -/
def y1v (h : ChOk n m p f) (d : FVec Ideal (B3 n 1 1) .f32) (X : FVec Ideal (B3 n f 320) .f32) : FVec Ideal (B3 n f 320) .f32 :=
  mulf (broadcastTo (B3 n f 320) (mulf (subf (broadcast (B3 n 1 1) (Scalar.ofBits .f32 0x00000000#32)) d) d) h.b1) (sv h d X)

/-- The row factors of the rows kept. -/
def dmv (h : ChOk n m p f) (d : FVec Ideal (B3 n 1 1) .f32) : FVec Ideal (B3 p 1 1) .f32 :=
  extractStridedSlice (B3 p 1 1) ![2, 0, 0] d h.dsl

/-- The block on the rows kept. -/
def x0v (h : ChOk n m p f) (X : FVec Ideal (B3 n f 320) .f32) : FVec Ideal (B3 p f 320) .f32 :=
  extractStridedSlice (B3 p f 320) ![2, 0, 0] X h.xsl

/-- The first polynomial on the rows kept. -/
def x1v (h : ChOk n m p f) (d : FVec Ideal (B3 n 1 1) .f32) (X : FVec Ideal (B3 n f 320) .f32) : FVec Ideal (B3 p f 320) .f32 :=
  mulf (broadcastTo (B3 p f 320) (subf (broadcast (B3 p 1 1) (Scalar.ofBits .f32 0x00000000#32)) (dmv h d)) h.b2)
    (extractStridedSlice (B3 p f 320) ![2, 0, 0] (sv h d X) h.xsl)

/-- The second polynomial on the rows kept. -/
def x2v (h : ChOk n m p f) (d : FVec Ideal (B3 n 1 1) .f32) (X : FVec Ideal (B3 n f 320) .f32) : FVec Ideal (B3 p f 320) .f32 :=
  subf (mulf (broadcastTo (B3 p f 320) (mulf (broadcast (B3 p 1 1) (Scalar.ofBits .f32 0xC0000000#32)) (dmv h d)) h.b2)
    (extractStridedSlice (B3 p f 320) ![2, 0, 0] (stv h.toStOk (y1v h d X)) h.xsl)) (x0v h X)

/-- The f32 pattern `0xC0000000` is the real minus two. -/
theorem ofBits_neg_two : Ideal.ofBits .f32 0xC0000000#32 = ((-(2 : ℝ) : ℝ) : EReal) := by
  simp [Ideal.ofBits, Ideal.ieee, -EReal.coe_mul, -EReal.coe_neg]; norm_num

/-- The f32 pattern `0x3F000000` is the real one half. -/
theorem ofBits_half : Ideal.ofBits .f32 0x3F000000#32 = ((1 / 2 : ℝ) : EReal) := by
  simp [Ideal.ofBits, Ideal.ieee, -EReal.coe_mul]; norm_num

theorem bcast_row {q g : ℕ} (v : FVec Ideal (B3 q 1 1) .f32) (h : (B3 q 1 1).Broadcasts (B3 q g 320))
    (a : Fin q) (k : Fin g) (l : Fin 320) : broadcastTo (B3 q g 320) v h (ix3 a k l) = v (ix3 a 0 0) := by
  refine broadcastTo_apply _ _ _ _ fun b => ?_
  have ha := a.isLt
  match b with
  | ⟨0, _⟩ => show (a : ℕ) = if q = 1 then 0 else (a : ℕ); split_ifs <;> omega
  | ⟨1, _⟩ => rfl
  | ⟨2, _⟩ => rfl

section
variable (hn : n = m + 1) (hp : n = p + 4) (h : ChOk n m p f) (d : FVec Ideal (B3 n 1 1) .f32)
  (X : FVec Ideal (B3 n f 320) .f32) (E : Field) (base : ℤ)
  (hd : ∀ a : Fin n, d (ix3 a 0 0) = ((dRow (base + a) : ℝ) : EReal))
  (hX : ∀ (a : Fin n) (k : Fin f) (l : Fin 320), X (ix3 a k l) = E (base + a) k l)
include hn hp hd hX

theorem sv_apply (a : Fin n) (k : Fin f) (l : Fin 320) (h0 : 0 < (a : ℕ)) (h1 : (a : ℕ) + 1 < n) :
    sv h d X (ix3 a k l) = sten (fun r l => (dRow r : EReal) * E r k l) (base + a) l := by
  refine stv_apply hn _ _ (fun r k l => (dRow r : EReal) * E r k l) base 0 n (fun a k l _ _ => ?_) a k l h0 (by omega) (by omega) h1
  pointwise [bcast_row]
  rw [hd, hX]

theorem stv_y1v_apply (a : Fin n) (k : Fin f) (l : Fin 320) (h0 : 1 < (a : ℕ)) (h1 : (a : ℕ) + 2 < n) :
    stv h.toStOk (y1v h d X) (ix3 a k l)
      = sten (fun r l => ((-dRow r * dRow r : ℝ) : EReal) * sten (fun r l => (dRow r : EReal) * E r k l) r l) (base + a) l := by
  refine stv_apply hn _ _ (fun r k l => ((-dRow r * dRow r : ℝ) : EReal) * sten (fun r l => (dRow r : EReal) * E r k l) r l) base 1 (n - 2 : ℤ)
    (fun a k l h0 h1 => ?_) a k l (by omega) (by omega) (by omega) (by omega)
  pointwise [y1v, bcast_row]
  rw [hd, sv_apply hn hp h d X E base hd hX a k l (by omega) (by omega)]
  simp only [zero_sub, ← EReal.coe_neg, ← EReal.coe_mul]

theorem x0v_apply (a : Fin p) (k : Fin f) (l : Fin 320) :
    x0v h X (ix3 a k l) = E (base + 2 + a) k l := by
  pointwise [x0v]
  rw [hX]; push_cast; rw [add_assoc]

theorem x1v_apply (a : Fin p) (k : Fin f) (l : Fin 320) :
    x1v h d X (ix3 a k l) = (c1 E (base + 2 + a) k l) := by
  pointwise [x1v, bcast_row, dmv]
  rw [hd, sv_apply hn hp h d X E base hd hX _ k l (by simp only; omega) (by simp only; omega)]
  simp only [zero_sub, ← EReal.coe_neg, ← EReal.coe_mul, c1]
  push_cast; rw [add_assoc]

theorem x2v_apply (a : Fin p) (k : Fin f) (l : Fin 320) :
    x2v h d X (ix3 a k l) = (c2 E (base + 2 + a) k l) := by
  pointwise [x2v, bcast_row, dmv]
  rw [hd, stv_y1v_apply hn hp h d X E base hd hX _ k l (by simp only; omega) (by simp only; omega),
    x0v_apply hn hp h d X E base hd hX, ofBits_neg_two]
  simp only [← EReal.coe_neg, ← EReal.coe_mul, c2]
  push_cast; rw [add_assoc]

end

end Cert.Grid
-- ==== Proof.Layer.lean ====
module

public import proofs.«01_k».proof.Proof.Stencil
public import Idealize.ShloMosaic.Lib.Tactic.WordOmega
public import proofs.«01_k».proof.Proof.Gen.KernelIdeal.Frame

@[expose] public section

set_option maxRecDepth 16384

noncomputable section

/-! The blocks that the kernel's three bodies compute, read over the extended reals. -/

namespace Cert.Grid

open Idealize.ShloMosaic Cert.KernelIdeal Cert.KernelIdeal.Gen

/-- A weighted sum over three pieces laid end to end is the three pieces' sums. -/
theorem cat_sum {f n : ℕ} (hn : n = f + f + f) (V : Fin n → EReal) (X0 X1 X2 : Fin f → EReal) (w : ℕ → ℕ → EReal) (e0 e1 e2 : ℕ → EReal)
    (hV : ∀ x : Fin n, V x = w ((x : ℕ) / f) ((x : ℕ) % f)) (h0 : ∀ k, X0 k = e0 k) (h1 : ∀ k, X1 k = e1 k)
    (h2 : ∀ k, X2 k = e2 k) :
    (∑ x : Fin n, V x * if h : (x : ℕ) < f then X0 ⟨x, h⟩ else if h : (x : ℕ) - f < f then X1 ⟨(x : ℕ) - f, h⟩ else X2 ⟨(x : ℕ) - f - f, by omega⟩)
      = (∑ k ∈ Finset.range f, w 0 k * e0 k) + (∑ k ∈ Finset.range f, w 1 k * e1 k)
        + ∑ k ∈ Finset.range f, w 2 k * e2 k := by
  subst hn
  have hq : ∀ t k, k < f → (t * f + k) / f = t ∧ (t * f + k) % f = k := fun t k hk => by
    rw [mul_comm, Nat.mul_add_div (by omega), Nat.mul_add_mod, Nat.div_eq_of_lt hk, Nat.mod_eq_of_lt hk]; exact ⟨rfl, rfl⟩
  rw [Fin.sum_univ_add, Fin.sum_univ_add]
  simp only [Finset.sum_range]
  congr 1
  · congr 1
    · refine Finset.sum_congr rfl fun k _ => ?_
      have h := hq 0 k k.isLt
      rw [zero_mul, zero_add] at h
      simp only [hV, Fin.val_castAdd, h.1, h.2, k.isLt, dif_pos, h0]
    · refine Finset.sum_congr rfl fun k _ => ?_
      have h := hq 1 k k.isLt
      rw [one_mul] at h
      simp only [hV, Fin.val_castAdd, Fin.val_natAdd, h.1, h.2, show ¬ f + (k : ℕ) < f by omega, dif_neg, not_false_eq_true,
        Nat.add_sub_cancel_left, k.isLt, dif_pos, h1]
  · refine Finset.sum_congr rfl fun k _ => ?_
    have h := hq 2 k k.isLt
    rw [two_mul] at h
    simp only [hV, Fin.val_natAdd, h.1, h.2, show ¬ f + f + (k : ℕ) < f by omega, show ¬ f + f + (k : ℕ) - f < f by omega,
      dif_neg, not_false_eq_true, h2, show f + f + (k : ℕ) - f - f = k by omega]

/-- The activation as the kernel's bodies write it. -/
def eluv {s : Shape} (y : FVec Ideal s .f32) : FVec Ideal s .f32 :=
  select (cmpf .ogt y (broadcast s (Scalar.ofBits .f32 0x00000000#32))) y
    (subf (exp (minimumf y (broadcast s (Scalar.ofBits .f32 0x00000000#32)))) (broadcast s (Scalar.ofBits .f32 0x3F800000#32)))

theorem eluv_apply {s : Shape} (y : FVec Ideal s .f32) (i : s.Idx) (r : EReal) (h : y i = r) : eluv y i = elu r := by
  pointwise [eluv]
  rw [h, elu]

/-- The linear part of a layer on the three polynomials' blocks: 36 rows of 8 channels to 64. -/
def linA (x0 x1 x2 : FVec Ideal S36x8x320 .f32) (w : FVec Ideal S64x24 .f32) (b : FVec Ideal S1x64x1 .f32) : FVec Ideal S36x64x320 .f32 :=
  addf (matmul dot_S36x64x24_S36x24x320_S36x64x320_2_1_1_2_0_0 none
    (broadcastTo S36x64x24 (shapeCast S1x64x24 (shapeCast S1x64x24 w shapeCasts_S64x24_S1x64x24) shapeCasts_S1x64x24_S1x64x24) broadcasts_S1x64x24_S36x64x24)
    (concatenate S36x24x320 1 [⟨S36x8x320, x0⟩, ⟨S36x8x320, x1⟩, ⟨S36x8x320, x2⟩] concatenates_S36x8x320_S36x8x320_S36x8x320_S36x24x320_d1)
    (constant S36x64x320 .f32 0x00000000#32)) (broadcastTo S36x64x320 b broadcasts_S1x64x1_S36x64x320)

/-- The same, 36 rows of 64 channels to 64. -/
def linB (x0 x1 x2 : FVec Ideal S36x64x320 .f32) (w : FVec Ideal S64x192 .f32) (b : FVec Ideal S1x64x1 .f32) : FVec Ideal S36x64x320 .f32 :=
  addf (matmul dot_S36x64x192_S36x192x320_S36x64x320_2_1_1_2_0_0 none
    (broadcastTo S36x64x192 (shapeCast S1x64x192 (shapeCast S1x64x192 w shapeCasts_S64x192_S1x64x192) shapeCasts_S1x64x192_S1x64x192) broadcasts_S1x64x192_S36x64x192)
    (concatenate S36x192x320 1 [⟨S36x64x320, x0⟩, ⟨S36x64x320, x1⟩, ⟨S36x64x320, x2⟩] concatenates_S36x64x320_S36x64x320_S36x64x320_S36x192x320_d1)
    (constant S36x64x320 .f32 0x00000000#32)) (broadcastTo S36x64x320 b broadcasts_S1x64x1_S36x64x320)

/-- The same, 32 rows of 64 channels to 64. -/
def linC (x0 x1 x2 : FVec Ideal S32x64x320 .f32) (w : FVec Ideal S64x192 .f32) (b : FVec Ideal S1x64x1 .f32) : FVec Ideal S32x64x320 .f32 :=
  addf (matmul dot_S32x64x192_S32x192x320_S32x64x320_2_1_1_2_0_0 none
    (broadcastTo S32x64x192 (shapeCast S1x64x192 (shapeCast S1x64x192 w shapeCasts_S64x192_S1x64x192) shapeCasts_S1x64x192_S1x64x192) broadcasts_S1x64x192_S32x64x192)
    (concatenate S32x192x320 1 [⟨S32x64x320, x0⟩, ⟨S32x64x320, x1⟩, ⟨S32x64x320, x2⟩] concatenates_S32x64x320_S32x64x320_S32x64x320_S32x192x320_d1)
    (constant S32x64x320 .f32 0x00000000#32)) (broadcastTo S32x64x320 b broadcasts_S1x64x1_S32x64x320)

/-- The same, 32 rows of 64 channels to 2. -/
def linD (x0 x1 x2 : FVec Ideal S32x64x320 .f32) (w : FVec Ideal S2x192 .f32) (b : FVec Ideal S1x2x1 .f32) : FVec Ideal S32x2x320 .f32 :=
  addf (matmul dot_S32x2x192_S32x192x320_S32x2x320_2_1_1_2_0_0 none
    (broadcastTo S32x2x192 (shapeCast S1x2x192 (shapeCast S1x2x192 w shapeCasts_S2x192_S1x2x192) shapeCasts_S1x2x192_S1x2x192) broadcasts_S1x2x192_S32x2x192)
    (concatenate S32x192x320 1 [⟨S32x64x320, x0⟩, ⟨S32x64x320, x1⟩, ⟨S32x64x320, x2⟩] concatenates_S32x64x320_S32x64x320_S32x64x320_S32x192x320_d1)
    (constant S32x2x320 .f32 0x00000000#32)) (broadcastTo S32x2x320 b broadcasts_S1x2x1_S32x2x320)

theorem chA : ChOk 40 39 36 8 where
  e1 := slices_S40x8x320_o0_0_1_S40x8x319
  e2 := slices_S40x8x320_o0_0_0_S40x8x1
  e3 := concatenates_S40x8x319_S40x8x1_S40x8x320_d2
  w1 := slices_S40x8x320_o0_0_319_S40x8x1
  w2 := slices_S40x8x320_o0_0_0_S40x8x319
  w3 := concatenates_S40x8x1_S40x8x319_S40x8x320_d2
  n1 := slices_S40x8x320_o0_0_0_S39x8x320
  n2 := concatenates_S1x8x320_S39x8x320_S40x8x320_d0
  s1 := slices_S40x8x320_o1_0_0_S39x8x320
  s2 := concatenates_S39x8x320_S1x8x320_S40x8x320_d0
  b1 := broadcasts_S40x1x1_S40x8x320
  b2 := broadcasts_S36x1x1_S36x8x320
  dsl := slices_S40x1x1_o2_0_0_S36x1x1
  xsl := slices_S40x8x320_o2_0_0_S36x8x320

theorem chB : ChOk 40 39 36 64 where
  e1 := slices_S40x64x320_o0_0_1_S40x64x319
  e2 := slices_S40x64x320_o0_0_0_S40x64x1
  e3 := concatenates_S40x64x319_S40x64x1_S40x64x320_d2
  w1 := slices_S40x64x320_o0_0_319_S40x64x1
  w2 := slices_S40x64x320_o0_0_0_S40x64x319
  w3 := concatenates_S40x64x1_S40x64x319_S40x64x320_d2
  n1 := slices_S40x64x320_o0_0_0_S39x64x320
  n2 := concatenates_S1x64x320_S39x64x320_S40x64x320_d0
  s1 := slices_S40x64x320_o1_0_0_S39x64x320
  s2 := concatenates_S39x64x320_S1x64x320_S40x64x320_d0
  b1 := broadcasts_S40x1x1_S40x64x320
  b2 := broadcasts_S36x1x1_S36x64x320
  dsl := slices_S40x1x1_o2_0_0_S36x1x1
  xsl := slices_S40x64x320_o2_0_0_S36x64x320

theorem chC : ChOk 36 35 32 64 where
  e1 := slices_S36x64x320_o0_0_1_S36x64x319
  e2 := slices_S36x64x320_o0_0_0_S36x64x1
  e3 := concatenates_S36x64x319_S36x64x1_S36x64x320_d2
  w1 := slices_S36x64x320_o0_0_319_S36x64x1
  w2 := slices_S36x64x320_o0_0_0_S36x64x319
  w3 := concatenates_S36x64x1_S36x64x319_S36x64x320_d2
  n1 := slices_S36x64x320_o0_0_0_S35x64x320
  n2 := concatenates_S1x64x320_S35x64x320_S36x64x320_d0
  s1 := slices_S36x64x320_o1_0_0_S35x64x320
  s2 := concatenates_S35x64x320_S1x64x320_S36x64x320_d0
  b1 := broadcasts_S36x1x1_S36x64x320
  b2 := broadcasts_S32x1x1_S32x64x320
  dsl := slices_S36x1x1_o2_0_0_S32x1x1
  xsl := slices_S36x64x320_o2_0_0_S32x64x320

/-- A layer's weighted sum over a block's three polynomials laid end to end. -/
theorem layer_sum {n m p f q : ℕ} (hn : n = m + 1) (hp : n = p + 4) (hq : q = f + f + f) (h : ChOk n m p f)
    (d : FVec Ideal (B3 n 1 1) .f32) (X : FVec Ideal (B3 n f 320) .f32) (E : Field) (base : ℤ) (w : ℕ → ℕ → ℕ → EReal)
    (hd : ∀ a : Fin n, d (ix3 a 0 0) = ((dRow (base + a) : ℝ) : EReal))
    (hX : ∀ (a : Fin n) (k : Fin f) (l : Fin 320), X (ix3 a k l) = E (base + a) k l)
    (V : Fin q → EReal) (o : ℕ) (hV : ∀ x : Fin q, V x = w ((x : ℕ) / f) ((x : ℕ) % f) o) (a : Fin p) (l : Fin 320) :
    (∑ x : Fin q, V x * if hx : (x : ℕ) < f then x0v h X (ix3 a ⟨x, hx⟩ l) else if hx : (x : ℕ) - f < f then
        x1v h d X (ix3 a ⟨(x : ℕ) - f, hx⟩ l) else x2v h d X (ix3 a ⟨(x : ℕ) - f - f, by omega⟩ l))
      = (∑ k ∈ Finset.range f, w 0 k o * E (base + 2 + a) k l) + (∑ k ∈ Finset.range f, w 1 k o * c1 E (base + 2 + a) k l)
        + ∑ k ∈ Finset.range f, w 2 k o * c2 E (base + 2 + a) k l :=
  cat_sum hq V (fun k => x0v h X (ix3 a k l)) (fun k => x1v h d X (ix3 a k l))
    (fun k => x2v h d X (ix3 a k l)) (fun t k => w t k o) (fun k => E (base + 2 + a) k l) (fun k => c1 E (base + 2 + a) k l)
    (fun k => c2 E (base + 2 + a) k l) hV (fun k => x0v_apply hn hp h d X E base hd hX a k l)
    (fun k => x1v_apply hn hp h d X E base hd hX a k l) (fun k => x2v_apply hn hp h d X E base hd hX a k l)

section
variable (E : Field) (base : ℤ) (w : ℕ → ℕ → ℕ → EReal) (b : ℕ → EReal)

theorem linA_apply (d : FVec Ideal (B3 40 1 1) .f32) (X : FVec Ideal (B3 40 8 320) .f32) (W : FVec Ideal S64x24 .f32) (B : FVec Ideal S1x64x1 .f32)
    (hd : ∀ a : Fin 40, d (ix3 a 0 0) = ((dRow (base + a) : ℝ) : EReal))
    (hX : ∀ (a : Fin 40) (k : Fin 8) (l : Fin 320), X (ix3 a k l) = E (base + a) k l)
    (hW : ∀ (o : Fin 64) (j : Fin 24), W (ix2 o j) = w ((j : ℕ) / 8) ((j : ℕ) % 8) o) (hB : ∀ o : Fin 64, B (ix3 0 o 0) = b o)
    (a : Fin 36) (o : Fin 64) (l : Fin 320) :
    linA (x0v chA X) (x1v chA d X) (x2v chA d X) W B (ix3 a o l) = lin 8 w b E (base + 2 + a) o l := by
  pointwise [linA]
  rw [lin, ← hB]
  exact congrArg (· + _) (layer_sum rfl rfl rfl chA d X E base w hd hX (fun x => W (ix2 o x)) o (hW o) a l)

theorem linB_apply (d : FVec Ideal (B3 40 1 1) .f32) (X : FVec Ideal (B3 40 64 320) .f32) (W : FVec Ideal S64x192 .f32) (B : FVec Ideal S1x64x1 .f32)
    (hd : ∀ a : Fin 40, d (ix3 a 0 0) = ((dRow (base + a) : ℝ) : EReal))
    (hX : ∀ (a : Fin 40) (k : Fin 64) (l : Fin 320), X (ix3 a k l) = E (base + a) k l)
    (hW : ∀ (o : Fin 64) (j : Fin 192), W (ix2 o j) = w ((j : ℕ) / 64) ((j : ℕ) % 64) o) (hB : ∀ o : Fin 64, B (ix3 0 o 0) = b o)
    (a : Fin 36) (o : Fin 64) (l : Fin 320) :
    linB (x0v chB X) (x1v chB d X) (x2v chB d X) W B (ix3 a o l) = lin 64 w b E (base + 2 + a) o l := by
  pointwise [linB]
  rw [lin, ← hB]
  exact congrArg (· + _) (layer_sum rfl rfl rfl chB d X E base w hd hX (fun x => W (ix2 o x)) o (hW o) a l)

theorem linC_apply (d : FVec Ideal (B3 36 1 1) .f32) (X : FVec Ideal (B3 36 64 320) .f32) (W : FVec Ideal S64x192 .f32) (B : FVec Ideal S1x64x1 .f32)
    (hd : ∀ a : Fin 36, d (ix3 a 0 0) = ((dRow (base + a) : ℝ) : EReal))
    (hX : ∀ (a : Fin 36) (k : Fin 64) (l : Fin 320), X (ix3 a k l) = E (base + a) k l)
    (hW : ∀ (o : Fin 64) (j : Fin 192), W (ix2 o j) = w ((j : ℕ) / 64) ((j : ℕ) % 64) o) (hB : ∀ o : Fin 64, B (ix3 0 o 0) = b o)
    (a : Fin 32) (o : Fin 64) (l : Fin 320) :
    linC (x0v chC X) (x1v chC d X) (x2v chC d X) W B (ix3 a o l) = lin 64 w b E (base + 2 + a) o l := by
  pointwise [linC]
  rw [lin, ← hB]
  exact congrArg (· + _) (layer_sum rfl rfl rfl chC d X E base w hd hX (fun x => W (ix2 o x)) o (hW o) a l)

theorem linD_apply (d : FVec Ideal (B3 36 1 1) .f32) (X : FVec Ideal (B3 36 64 320) .f32) (W : FVec Ideal S2x192 .f32) (B : FVec Ideal S1x2x1 .f32)
    (hd : ∀ a : Fin 36, d (ix3 a 0 0) = ((dRow (base + a) : ℝ) : EReal))
    (hX : ∀ (a : Fin 36) (k : Fin 64) (l : Fin 320), X (ix3 a k l) = E (base + a) k l)
    (hW : ∀ (o : Fin 2) (j : Fin 192), W (ix2 o j) = w ((j : ℕ) / 64) ((j : ℕ) % 64) o) (hB : ∀ o : Fin 2, B (ix3 0 o 0) = b o)
    (a : Fin 32) (o : Fin 2) (l : Fin 320) :
    linD (x0v chC X) (x1v chC d X) (x2v chC d X) W B (ix3 a o l) = lin 64 w b E (base + 2 + a) o l := by
  pointwise [linD]
  rw [lin, ← hB]
  exact congrArg (· + _) (layer_sum rfl rfl rfl chC d X E base w hd hX (fun x => W (ix2 o x)) o (hW o) a l)

end

/-- The named constant is `1 / √3`. -/
theorem named_rsqrt3 : Named.named (F := Ideal) Cert.KernelIdeal.κ "rsqrt3" (φ := .f32) 0x3F13CD3A#32 = (((Real.sqrt 3)⁻¹ : ℝ) : EReal) :=
  IdealRules.named_const.ideal_named_scalar _ _ _ _ rfl

/-- The row factor as the bodies choose it from the row's word. -/
theorem row_word (z : BitVec 32) (r : ℤ) (hz : z.toInt = r) :
    Scalar.select (IntOp.ori (IntOp.cmpi .slt z 0#32) (IntOp.cmpi .sgt z 319#32)) (0 : EReal)
      (Scalar.select (IntOp.ori (IntOp.cmpi .eq z 0#32) (IntOp.cmpi .eq z 319#32)) (((Real.sqrt 3)⁻¹ : ℝ) : EReal) ((1 / 2 : ℝ) : EReal))
      = ((dRow r : ℝ) : EReal) := by
  have e0 : z = 0#32 ↔ r = 0 := by rw [← hz, ← BitVec.toInt_inj]; rfl
  have e1 : z = 319#32 ↔ r = 319 := by rw [← hz, ← BitVec.toInt_inj]; rfl
  have s0 : z.slt 0#32 = decide (r < 0) := by rw [← hz]; rfl
  have s1 : (319#32).slt z = decide (319 < r) := by rw [← hz]; rfl
  have o : ∀ p q : Bool, (BitVec.ofBool p ||| BitVec.ofBool q = 1#1) ↔ (p = true ∨ q = true) := by decide
  simp only [Scalar.select, IntOp.ori, IntOp.cmpi, s0, s1, dRow, show (1 : BitVec 1) = 1#1 from rfl, o, decide_eq_true_eq, beq_iff_eq, e0, e1]
  split_ifs <;> rfl

theorem row_toInt (c : BitVec 32) (hc : c = 4#32 ∨ c = 2#32) (q a : ℕ) (hq : q < 10) (ha : a < 40) :
    (IntOp.addi (Scalar.subi (Scalar.muli (BitVec.ofNat 32 q) 32#32) c) (BitVec.ofNat 32 a)).toInt = 32 * (q : ℤ) - c.toNat + a := by
  simp only [IntOp.addi, Scalar.subi, Scalar.muli, IntOp.subi, IntOp.muli]
  rcases hc with rfl | rfl <;> word_omega

theorem pay2_apply (i : grid0.Coords) (a : Fin 40) :
    k0_pay2 (F := Ideal) i (ix3 a 0 0) = ((dRow (32 * (i 0).val - 4 + a) : ℝ) : EReal) := by
  pointwise [k0_pay2]
  rw [named_rsqrt3, ofBits_half]
  exact row_word _ _ (row_toInt 4#32 (Or.inl rfl) _ _ (i 0).isLt a.isLt)

/-- The same in the second body. -/
theorem pay2_apply' (i : grid1.Coords) (a : Fin 40) :
    k1_pay2 (F := Ideal) i (ix3 a 0 0) = ((dRow (32 * (i 0).val - 4 + a) : ℝ) : EReal) := pay2_apply i a

/-- The last body's row factors start two rows above the block. -/
theorem pay1_apply (i : grid2.Coords) (a : Fin 36) :
    k2_pay1 (F := Ideal) i (ix3 a 0 0) = ((dRow (32 * (i 0).val - 2 + a) : ℝ) : EReal) := by
  pointwise [k2_pay1]
  rw [named_rsqrt3, ofBits_half]
  exact row_word _ _ (row_toInt 2#32 (Or.inr rfl) _ _ (i 0).isLt (by omega))

end Cert.Grid
-- ==== Proof.Block.lean ====
module

public import proofs.«01_k».proof.Proof.Layer
public import Idealize.ShloMosaic.Lib.Pipeline.ValueKit

@[expose] public section

set_option maxRecDepth 16384

noncomputable section

/-! What each of the three bodies leaves in its output block, over the extended reals. -/

namespace Cert.Grid

open Idealize.ShloMosaic Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- The row factors of the rows kept start two rows further down. -/
theorem dmv_apply {n m p f : ℕ} (h : ChOk n m p f) (d : FVec Ideal (B3 n 1 1) .f32) (base : ℤ) (hp : n = p + 4)
    (hd : ∀ a : Fin n, d (ix3 a 0 0) = ((dRow (base + a) : ℝ) : EReal)) (a : Fin p) :
    dmv h d (ix3 a 0 0) = ((dRow (base + 2 + a) : ℝ) : EReal) := by
  pointwise [dmv]
  rw [hd]; push_cast; rw [add_assoc]

/-- A block of rows between two halos, over a field. -/
theorem halo_apply {c n f : ℕ} (hn : n = c + 32 + c) (u z : FVec Ideal (B3 c f 320) .f32) (v : FVec Ideal (B3 32 f 320) .f32)
    (h : Shape.Concatenates [B3 c f 320, B3 32 f 320, B3 c f 320] (B3 n f 320) 0) (E : Field) (base : ℤ)
    (hu : ∀ (a : Fin c) (k : Fin f) (l : Fin 320), u (ix3 a k l) = E (base + a) k l)
    (hv : ∀ (a : Fin 32) (k : Fin f) (l : Fin 320), v (ix3 a k l) = E (base + c + a) k l)
    (hz : ∀ (a : Fin c) (k : Fin f) (l : Fin 320), z (ix3 a k l) = E (base + c + 32 + a) k l)
    (a : Fin n) (k : Fin f) (l : Fin 320) :
    concatenate (B3 n f 320) 0 [⟨B3 c f 320, u⟩, ⟨B3 32 f 320, v⟩, ⟨B3 c f 320, z⟩] h (ix3 a k l) = E (base + a) k l := by
  pointwise
  by_cases c1 : (a : ℕ) < c
  · rw [dif_pos c1, hu]
  · rw [dif_neg c1]
    by_cases c2 : (a : ℕ) - c < 32
    · rw [dif_pos c2, hv, show base + c + (((a : ℕ) - c : ℕ) : ℤ) = base + a by omega]
    · rw [dif_neg c2, hz, show base + c + 32 + (((a : ℕ) - c - 32 : ℕ) : ℤ) = base + a by omega]

section
variable (E : Field) (base : ℤ) (w w' : ℕ → ℕ → ℕ → EReal) (b b' : ℕ → EReal)

/-- The first layer of a pair, 8 channels. -/
def hidA (d : FVec Ideal (B3 40 1 1) .f32) (X : FVec Ideal (B3 40 8 320) .f32) (W : FVec Ideal S64x24 .f32) (B : FVec Ideal S1x64x1 .f32) :
    FVec Ideal S36x64x320 .f32 := eluv (linA (x0v chA X) (x1v chA d X) (x2v chA d X) W B)

/-- The first layer of a pair, 64 channels. -/
def hidB (d : FVec Ideal (B3 40 1 1) .f32) (X : FVec Ideal (B3 40 64 320) .f32) (W : FVec Ideal S64x192 .f32) (B : FVec Ideal S1x64x1 .f32) :
    FVec Ideal S36x64x320 .f32 := eluv (linB (x0v chB X) (x1v chB d X) (x2v chB d X) W B)

/-- The second layer of a pair. -/
def outC (d : FVec Ideal (B3 36 1 1) .f32) (Y : FVec Ideal (B3 36 64 320) .f32) (W : FVec Ideal S64x192 .f32) (B : FVec Ideal S1x64x1 .f32) :
    FVec Ideal S32x64x320 .f32 := eluv (linC (x0v chC Y) (x1v chC d Y) (x2v chC d Y) W B)

theorem hidA_apply (d : FVec Ideal (B3 40 1 1) .f32) (X : FVec Ideal (B3 40 8 320) .f32) (W : FVec Ideal S64x24 .f32) (B : FVec Ideal S1x64x1 .f32)
    (hd : ∀ a : Fin 40, d (ix3 a 0 0) = ((dRow (base + a) : ℝ) : EReal))
    (hX : ∀ (a : Fin 40) (k : Fin 8) (l : Fin 320), X (ix3 a k l) = E (base + a) k l)
    (hW : ∀ (o : Fin 64) (j : Fin 24), W (ix2 o j) = w ((j : ℕ) / 8) ((j : ℕ) % 8) o) (hB : ∀ o : Fin 64, B (ix3 0 o 0) = b o)
    (a : Fin 36) (o : Fin 64) (l : Fin 320) : hidA d X W B (ix3 a o l) = act 8 w b E (base + 2 + a) o l :=
  eluv_apply _ _ _ (linA_apply E base _ b d X W B hd hX hW hB a o l)

theorem hidB_apply (d : FVec Ideal (B3 40 1 1) .f32) (X : FVec Ideal (B3 40 64 320) .f32) (W : FVec Ideal S64x192 .f32) (B : FVec Ideal S1x64x1 .f32)
    (hd : ∀ a : Fin 40, d (ix3 a 0 0) = ((dRow (base + a) : ℝ) : EReal))
    (hX : ∀ (a : Fin 40) (k : Fin 64) (l : Fin 320), X (ix3 a k l) = E (base + a) k l)
    (hW : ∀ (o : Fin 64) (j : Fin 192), W (ix2 o j) = w ((j : ℕ) / 64) ((j : ℕ) % 64) o) (hB : ∀ o : Fin 64, B (ix3 0 o 0) = b o)
    (a : Fin 36) (o : Fin 64) (l : Fin 320) : hidB d X W B (ix3 a o l) = act 64 w b E (base + 2 + a) o l :=
  eluv_apply _ _ _ (linB_apply E base _ b d X W B hd hX hW hB a o l)

theorem outC_apply (d : FVec Ideal (B3 36 1 1) .f32) (Y : FVec Ideal (B3 36 64 320) .f32) (W : FVec Ideal S64x192 .f32) (B : FVec Ideal S1x64x1 .f32)
    (hd : ∀ a : Fin 36, d (ix3 a 0 0) = ((dRow (base + a) : ℝ) : EReal))
    (hX : ∀ (a : Fin 36) (k : Fin 64) (l : Fin 320), Y (ix3 a k l) = E (base + a) k l)
    (hW : ∀ (o : Fin 64) (j : Fin 192), W (ix2 o j) = w ((j : ℕ) / 64) ((j : ℕ) % 64) o) (hB : ∀ o : Fin 64, B (ix3 0 o 0) = b o)
    (a : Fin 32) (o : Fin 64) (l : Fin 320) : outC d Y W B (ix3 a o l) = act 64 w b E (base + 2 + a) o l :=
  eluv_apply _ _ _ (linC_apply E base _ b d Y W B hd hX hW hB a o l)

/-! ## The first body -/

theorem out0_eq (i : grid0.Coords) (x0 : FVec Ideal S32x8x320 .f32) (x1 x2 : FVec Ideal S4x8x320 .f32) (x3 : FVec Ideal S64x24 .f32)
    (x4 : FVec Ideal S1x64x1 .f32) (x5 : FVec Ideal S64x192 .f32) (x6 : FVec Ideal S1x64x1 .f32) :
    (out0_7 (F := Ideal) i x0 x1 x2 x3 x4 x5 x6 : FVec Ideal S32x64x320 .f32)
      = outC (dmv chA (k0_pay2 i)) (hidA (k0_pay2 i) (k0_pay3 x1 x0 x2) (k0_pay4 x3) (k0_pay5 x4)) (k0_pay12 x5) (k0_pay13 x6) := by
  unfold_out out0_7
  frame_out
  rfl

theorem out0_apply (i : grid0.Coords) (x0 : FVec Ideal S32x8x320 .f32) (x1 x2 : FVec Ideal S4x8x320 .f32) (x3 : FVec Ideal S64x24 .f32)
    (x4 : FVec Ideal S1x64x1 .f32) (x5 : FVec Ideal S64x192 .f32) (x6 : FVec Ideal S1x64x1 .f32)
    (h1 : ∀ (a : Fin 4) (k : Fin 8) (l : Fin 320), x1 (ix3 a k l) = E (32 * (i 0).val - 4 + a) k l)
    (h0 : ∀ (a : Fin 32) (k : Fin 8) (l : Fin 320), x0 (ix3 a k l) = E (32 * (i 0).val + a) k l)
    (h2 : ∀ (a : Fin 4) (k : Fin 8) (l : Fin 320), x2 (ix3 a k l) = E (32 * (i 0).val + 32 + a) k l)
    (h3 : ∀ (o : Fin 64) (j : Fin 24), x3 (ix2 o j) = w ((j : ℕ) / 8) ((j : ℕ) % 8) o) (h4 : ∀ o : Fin 64, x4 (ix3 0 o 0) = b o)
    (h5 : ∀ (o : Fin 64) (j : Fin 192), x5 (ix2 o j) = w' ((j : ℕ) / 64) ((j : ℕ) % 64) o) (h6 : ∀ o : Fin 64, x6 (ix3 0 o 0) = b' o)
    (a : Fin 32) (o : Fin 64) (l : Fin 320) :
    out0_7 (F := Ideal) i x0 x1 x2 x3 x4 x5 x6 (ix3 a o l) = (act 64 w' b' (act 8 w b E) (32 * (i 0).val + a) o l) := by
  refine (congrFun (out0_eq i x0 x1 x2 x3 x4 x5 x6) _).trans ?_
  rw [outC_apply (act 8 w b E) (32 * (i 0).val - 4 + 2) w' b' _ _ _ _ (dmv_apply chA _ _ rfl (pay2_apply i))
    (hidA_apply E (32 * (i 0).val - 4) w b _ _ _ _ (pay2_apply i) (fun a k l => ?_) (fun o j => ?_) (fun o => ?_)) (fun o j => ?_) (fun o => ?_)]
  · rw [show (32 * ((i 0).val : ℤ) - 4 + 2 + 2 + a) = 32 * (i 0).val + a by ring]
  · refine halo_apply (c := 4) rfl _ _ _ concatenates_S4x8x320_S32x8x320_S4x8x320_S40x8x320_d0 E (32 * (i 0).val - 4) (fun a k l => ?_) (fun a k l => ?_) (fun a k l => ?_) a k l
    · pointwise; exact h1 a k l
    · pointwise; rw [h0]; push_cast; rw [sub_add_cancel]
    · pointwise; rw [h2]; push_cast; rw [sub_add_cancel]
  · pointwise [k0_pay4]; exact h3 o j
  · pointwise [k0_pay5]; exact h4 o
  · pointwise [k0_pay12]; exact h5 o j
  · pointwise [k0_pay13]; exact h6 o

/-! ## The second body -/

theorem out1_eq (i : grid1.Coords) (x0 : FVec Ideal S32x64x320 .f32) (x1 x2 : FVec Ideal S4x64x320 .f32) (x3 : FVec Ideal S64x192 .f32)
    (x4 : FVec Ideal S1x64x1 .f32) (x5 : FVec Ideal S64x192 .f32) (x6 : FVec Ideal S1x64x1 .f32) :
    (out1_7 (F := Ideal) i x0 x1 x2 x3 x4 x5 x6 : FVec Ideal S32x64x320 .f32)
      = outC (dmv chB (k1_pay2 i)) (hidB (k1_pay2 i) (k1_pay3 x1 x0 x2) (k1_pay4 x3) (k1_pay5 x4)) (k1_pay12 x5) (k1_pay13 x6) := by
  unfold_out out1_7
  frame_out
  rfl

theorem out1_apply (i : grid1.Coords) (x0 : FVec Ideal S32x64x320 .f32) (x1 x2 : FVec Ideal S4x64x320 .f32) (x3 : FVec Ideal S64x192 .f32)
    (x4 : FVec Ideal S1x64x1 .f32) (x5 : FVec Ideal S64x192 .f32) (x6 : FVec Ideal S1x64x1 .f32)
    (h1 : ∀ (a : Fin 4) (k : Fin 64) (l : Fin 320), x1 (ix3 a k l) = E (32 * (i 0).val - 4 + a) k l)
    (h0 : ∀ (a : Fin 32) (k : Fin 64) (l : Fin 320), x0 (ix3 a k l) = E (32 * (i 0).val + a) k l)
    (h2 : ∀ (a : Fin 4) (k : Fin 64) (l : Fin 320), x2 (ix3 a k l) = E (32 * (i 0).val + 32 + a) k l)
    (h3 : ∀ (o : Fin 64) (j : Fin 192), x3 (ix2 o j) = w ((j : ℕ) / 64) ((j : ℕ) % 64) o) (h4 : ∀ o : Fin 64, x4 (ix3 0 o 0) = b o)
    (h5 : ∀ (o : Fin 64) (j : Fin 192), x5 (ix2 o j) = w' ((j : ℕ) / 64) ((j : ℕ) % 64) o) (h6 : ∀ o : Fin 64, x6 (ix3 0 o 0) = b' o)
    (a : Fin 32) (o : Fin 64) (l : Fin 320) :
    out1_7 (F := Ideal) i x0 x1 x2 x3 x4 x5 x6 (ix3 a o l) = (act 64 w' b' (act 64 w b E) (32 * (i 0).val + a) o l) := by
  refine (congrFun (out1_eq i x0 x1 x2 x3 x4 x5 x6) _).trans ?_
  rw [outC_apply (act 64 w b E) (32 * (i 0).val - 4 + 2) w' b' _ _ _ _ (dmv_apply chB _ _ rfl (pay2_apply' i))
    (hidB_apply E (32 * (i 0).val - 4) w b _ _ _ _ (pay2_apply' i) (fun a k l => ?_) (fun o j => ?_) (fun o => ?_)) (fun o j => ?_) (fun o => ?_)]
  · rw [show (32 * ((i 0).val : ℤ) - 4 + 2 + 2 + a) = 32 * (i 0).val + a by ring]
  · refine halo_apply (c := 4) rfl _ _ _ concatenates_S4x64x320_S32x64x320_S4x64x320_S40x64x320_d0 E (32 * (i 0).val - 4) (fun a k l => ?_) (fun a k l => ?_) (fun a k l => ?_) a k l
    · pointwise; exact h1 a k l
    · pointwise; rw [h0]; push_cast; rw [sub_add_cancel]
    · pointwise; rw [h2]; push_cast; rw [sub_add_cancel]
  · pointwise [k1_pay4]; exact h3 o j
  · pointwise [k1_pay5]; exact h4 o
  · pointwise [k1_pay12]; exact h5 o j
  · pointwise [k1_pay13]; exact h6 o

end

/-! ## The last body -/

theorem out2_eq (i : grid2.Coords) (x0 : FVec Ideal S32x64x320 .f32) (x1 x2 : FVec Ideal S2x64x320 .f32) (x3 : FVec Ideal S2x192 .f32)
    (x4 : FVec Ideal S1x2x1 .f32) :
    (out2_5 (F := Ideal) i x0 x1 x2 x3 x4 : FVec Ideal S32x2x320 .f32)
      = linD (x0v chC (k2_pay2 x1 x0 x2)) (x1v chC (k2_pay1 i) (k2_pay2 x1 x0 x2)) (x2v chC (k2_pay1 i) (k2_pay2 x1 x0 x2)) (k2_pay3 x3) (k2_pay4 x4) := by
  unfold out2_5
  frame_out
  rfl

theorem out2_apply (E : Field) (w : ℕ → ℕ → ℕ → EReal) (b : ℕ → EReal) (i : grid2.Coords) (x0 : FVec Ideal S32x64x320 .f32)
    (x1 x2 : FVec Ideal S2x64x320 .f32) (x3 : FVec Ideal S2x192 .f32) (x4 : FVec Ideal S1x2x1 .f32)
    (h1 : ∀ (a : Fin 2) (k : Fin 64) (l : Fin 320), x1 (ix3 a k l) = E (32 * (i 0).val - 2 + a) k l)
    (h0 : ∀ (a : Fin 32) (k : Fin 64) (l : Fin 320), x0 (ix3 a k l) = E (32 * (i 0).val + a) k l)
    (h2 : ∀ (a : Fin 2) (k : Fin 64) (l : Fin 320), x2 (ix3 a k l) = E (32 * (i 0).val + 32 + a) k l)
    (h3 : ∀ (o : Fin 2) (j : Fin 192), x3 (ix2 o j) = w ((j : ℕ) / 64) ((j : ℕ) % 64) o) (h4 : ∀ o : Fin 2, x4 (ix3 0 o 0) = b o)
    (a : Fin 32) (o : Fin 2) (l : Fin 320) :
    out2_5 (F := Ideal) i x0 x1 x2 x3 x4 (ix3 a o l) = lin 64 w b E (32 * (i 0).val + a) o l := by
  refine (congrFun (out2_eq i x0 x1 x2 x3 x4) _).trans ?_
  rw [linD_apply E (32 * (i 0).val - 2) w b _ _ _ _ (pay1_apply i) (fun a k l => ?_) (fun o j => ?_) (fun o => ?_)]
  · rw [show (32 * ((i 0).val : ℤ) - 2 + 2 + a) = 32 * (i 0).val + a by ring]
  · refine halo_apply (c := 2) rfl _ _ _ concatenates_S2x64x320_S32x64x320_S2x64x320_S36x64x320_d0 E (32 * (i 0).val - 2) (fun a k l => ?_) (fun a k l => ?_) (fun a k l => ?_) a k l
    · pointwise; exact h1 a k l
    · pointwise; rw [h0]; push_cast; rw [sub_add_cancel]
    · pointwise; rw [h2]; push_cast; rw [sub_add_cancel]
  · pointwise [k2_pay3]; exact h3 o j
  · pointwise [k2_pay4]; exact h4 o

end Cert.Grid
-- ==== Proof.Region.lean ====
module

public import proofs.«01_k».proof.Proof.Block
public import Idealize.ShloMosaic.Lib.Pipeline.ValueKit

@[expose] public section

set_option maxRecDepth 16384

noncomputable section

/-! The three regions' result arrays, over the extended reals. -/

namespace Cert.Grid

open Idealize.ShloMosaic Idealize.ShloMosaic.TcCoe Cert.KernelIdeal Cert.KernelIdeal.Gen

/-- A field carried past the grid's edges by the rows that the clamped halos read there, `c` rows back in. -/
def ext (c : ℤ) (x : Field) : Field := fun r k l => if r < 0 then x (r + c) k l else if 319 < r then x (r - c) k l else x r k l

theorem ext_agree (c : ℤ) (x : Field) : Agree (ext c x) x := fun r k l h0 h1 => by
  rw [ext, if_neg (by omega), if_neg (by omega)]

/-- The row `s` that a block reads stands for row `r` of the extended field. -/
theorem ext_read (c : ℤ) (x : Field) (s r : ℤ) (k l : ℕ)
    (h : (r < 0 ∧ s = r + c) ∨ (319 < r ∧ s = r - c) ∨ (0 ≤ r ∧ r ≤ 319 ∧ s = r)) :
    x s k l = ext c x r k l := by
  rcases h with ⟨h, rfl⟩ | ⟨h, rfl⟩ | ⟨h, h', rfl⟩
  · rw [ext, if_pos h]
  · rw [ext, if_neg (by omega), if_pos h]
  · rw [ext, if_neg (by omega), if_neg (by omega)]

theorem idx0 (t : Fin cfg0.N) : (grid0.coords t 0).val = t.val ∧ t.val < 10
    ∧ win0_0.index t = ![t.val, 0, 0] ∧ win0_1.index t = ![8 * t.val - 1, 0, 0] ∧ win0_2.index t = ![min (8 * (t.val + 1)) 79, 0, 0]
    ∧ win0_3.index t = ![0, 0] ∧ win0_4.index t = ![0, 0, 0] ∧ win0_5.index t = ![0, 0] ∧ win0_6.index t = ![0, 0, 0]
    ∧ win0_7.index t = ![t.val, 0, 0] := by
  revert t; decide +kernel

theorem idx1 (t : Fin cfg1.N) : (grid1.coords t 0).val = t.val ∧ t.val < 10
    ∧ win1_0.index t = ![t.val, 0, 0] ∧ win1_1.index t = ![8 * t.val - 1, 0, 0] ∧ win1_2.index t = ![min (8 * (t.val + 1)) 79, 0, 0]
    ∧ win1_3.index t = ![0, 0] ∧ win1_4.index t = ![0, 0, 0] ∧ win1_5.index t = ![0, 0] ∧ win1_6.index t = ![0, 0, 0]
    ∧ win1_7.index t = ![t.val, 0, 0] := by
  revert t; decide +kernel

theorem idx2 (t : Fin cfg2.N) : (grid2.coords t 0).val = t.val ∧ t.val < 10
    ∧ win2_0.index t = ![t.val, 0, 0] ∧ win2_1.index t = ![16 * t.val - 1, 0, 0] ∧ win2_2.index t = ![min (16 * (t.val + 1)) 159, 0, 0]
    ∧ win2_3.index t = ![0, 0] ∧ win2_4.index t = ![0, 0, 0]
    ∧ win2_5.index t = ![t.val, 0, 0] := by
  revert t; decide +kernel

variable (V : (c : Dev nD) → (b : Ref sig .tc) → Buf (Elt Ideal) ((c : Thread nD τ).loc b)) (c : Dev nD) (x : Field)

section
variable (w w' : ℕ → ℕ → ℕ → EReal) (b b' : ℕ → EReal)

set_option maxHeartbeats 2000000 in
/-- The first region's result: the first two layers of the field its input holds. -/
theorem arr0 (hx : ∀ (r : Fin 320) (k : Fin 8) (l : Fin 320), (V c main_v2 : FVec Ideal S320x8x320 .f32) (ix3 r k l) = x r k l)
    (h3 : ∀ (o : Fin 64) (j : Fin 24), (V c main_v12 : FVec Ideal S64x24 .f32) (ix2 o j) = w ((j : ℕ) / 8) ((j : ℕ) % 8) o)
    (h4 : ∀ o : Fin 64, (V c main_v13 : FVec Ideal S1x64x1 .f32) (ix3 0 o 0) = b o)
    (h5 : ∀ (o : Fin 64) (j : Fin 192), (V c main_v23 : FVec Ideal S64x192 .f32) (ix2 o j) = w' ((j : ℕ) / 64) ((j : ℕ) % 64) o)
    (h6 : ∀ o : Fin 64, (V c main_v24 : FVec Ideal S1x64x1 .f32) (ix3 0 o 0) = b' o) :
    (dat0 V c).arrAt 7 cfg0.N = (fun i => (act 64 w' b' (act 8 w b x) ((i 0 : ℕ) : ℤ) (i 1 : ℕ) (i 2 : ℕ)) : FVec Ideal S320x64x320 .f32) := by
  refine (dat0 V c).arrAt_eq_of_covers 7 _ (by decide +kernel) fun t hf y => ?_
  obtain ⟨et, ht, i0, i1, i2, i3, i4, i5, i6, i7⟩ := idx0 t
  blk_simp [i7]
  rw [after0_7]
  obtain ⟨a, o, l, rfl⟩ : ∃ (a : Fin 32) (o : Fin 64) (l : Fin 320), y = ix3 a o l := ⟨y 0, y 1, y 2, by funext q; fin_cases q <;> rfl⟩
  refine (out0_apply (ext 4 x) w w' b b' (grid0.coords t) _ _ _ _ _ _ _ ?_ ?_ ?_ ?_ ?_ ?_ ?_ a o l).trans ?_
  · intro a k l
    refine .trans ?_ ((hx ⟨4 * (8 * t.val - 1) + a.val, by omega⟩ k l).trans (ext_read _ _ _ _ _ _ ?_))
    · blk_ext [iblk0, i1]
    · rw [et]; simp only []; omega
  · intro a k l
    refine .trans ?_ ((hx ⟨32 * t.val + a.val, by omega⟩ k l).trans (ext_read _ _ _ _ _ _ ?_))
    · blk_ext [iblk0, i0]
    · rw [et]; simp only []; omega
  · intro a k l
    refine .trans ?_ ((hx ⟨4 * (min (8 * (t.val + 1)) 79) + a.val, by omega⟩ k l).trans (ext_read _ _ _ _ _ _ ?_))
    · blk_ext [iblk0, i2]
    · rw [et]; simp only []; omega
  · intro o j; refine .trans ?_ (h3 o j); blk_ext [iblk0, i3]
  · intro o; refine .trans ?_ (h4 o); blk_ext [iblk0, i4]
  · intro o j; refine .trans ?_ (h5 o j); blk_ext [iblk0, i5]
  · intro o; refine .trans ?_ (h6 o); blk_ext [iblk0, i6]
  · rw [et, act_agree (act_agree (ext_agree 4 x) 8 w b) 64 w' b' _ _ _ (by omega) (by omega)]
    congr 1
    simp only [ix3_0]
    push_cast; ring

set_option maxHeartbeats 2000000 in
/-- The second region's result: the next two layers. -/
theorem arr1 (hx : ∀ (r : Fin 320) (k : Fin 64) (l : Fin 320), (V c main_v25 : FVec Ideal S320x64x320 .f32) (ix3 r k l) = x r k l)
    (h3 : ∀ (o : Fin 64) (j : Fin 192), (V c main_v35 : FVec Ideal S64x192 .f32) (ix2 o j) = w ((j : ℕ) / 64) ((j : ℕ) % 64) o)
    (h4 : ∀ o : Fin 64, (V c main_v36 : FVec Ideal S1x64x1 .f32) (ix3 0 o 0) = b o)
    (h5 : ∀ (o : Fin 64) (j : Fin 192), (V c main_v46 : FVec Ideal S64x192 .f32) (ix2 o j) = w' ((j : ℕ) / 64) ((j : ℕ) % 64) o)
    (h6 : ∀ o : Fin 64, (V c main_v47 : FVec Ideal S1x64x1 .f32) (ix3 0 o 0) = b' o) :
    (dat1 V c).arrAt 7 cfg1.N = (fun i => (act 64 w' b' (act 64 w b x) ((i 0 : ℕ) : ℤ) (i 1 : ℕ) (i 2 : ℕ)) : FVec Ideal S320x64x320 .f32) := by
  refine (dat1 V c).arrAt_eq_of_covers 7 _ (by decide +kernel) fun t hf y => ?_
  obtain ⟨et, ht, i0, i1, i2, i3, i4, i5, i6, i7⟩ := idx1 t
  blk_simp [i7]
  rw [after1_7]
  obtain ⟨a, o, l, rfl⟩ : ∃ (a : Fin 32) (o : Fin 64) (l : Fin 320), y = ix3 a o l := ⟨y 0, y 1, y 2, by funext q; fin_cases q <;> rfl⟩
  refine (out1_apply (ext 4 x) w w' b b' (grid1.coords t) _ _ _ _ _ _ _ ?_ ?_ ?_ ?_ ?_ ?_ ?_ a o l).trans ?_
  · intro a k l
    refine .trans ?_ ((hx ⟨4 * (8 * t.val - 1) + a.val, by omega⟩ k l).trans (ext_read _ _ _ _ _ _ ?_))
    · blk_ext [iblk1, i1]
    · rw [et]; simp only []; omega
  · intro a k l
    refine .trans ?_ ((hx ⟨32 * t.val + a.val, by omega⟩ k l).trans (ext_read _ _ _ _ _ _ ?_))
    · blk_ext [iblk1, i0]
    · rw [et]; simp only []; omega
  · intro a k l
    refine .trans ?_ ((hx ⟨4 * (min (8 * (t.val + 1)) 79) + a.val, by omega⟩ k l).trans (ext_read _ _ _ _ _ _ ?_))
    · blk_ext [iblk1, i2]
    · rw [et]; simp only []; omega
  · intro o j; refine .trans ?_ (h3 o j); blk_ext [iblk1, i3]
  · intro o; refine .trans ?_ (h4 o); blk_ext [iblk1, i4]
  · intro o j; refine .trans ?_ (h5 o j); blk_ext [iblk1, i5]
  · intro o; refine .trans ?_ (h6 o); blk_ext [iblk1, i6]
  · rw [et, act_agree (act_agree (ext_agree 4 x) 64 w b) 64 w' b' _ _ _ (by omega) (by omega)]
    congr 1
    simp only [ix3_0]
    push_cast; ring

end

set_option maxHeartbeats 2000000 in
/-- The third region's result: the last layer, of any weights. -/
theorem arr2 (w : ℕ → ℕ → ℕ → EReal) (b : ℕ → EReal)
    (hx : ∀ (r : Fin 320) (k : Fin 64) (l : Fin 320), (V c main_v48 : FVec Ideal S320x64x320 .f32) (ix3 r k l) = x r k l)
    (h3 : ∀ (o : Fin 2) (j : Fin 192), (V c main_v58 : FVec Ideal S2x192 .f32) (ix2 o j) = w ((j : ℕ) / 64) ((j : ℕ) % 64) o)
    (h4 : ∀ o : Fin 2, (V c main_v59 : FVec Ideal S1x2x1 .f32) (ix3 0 o 0) = b o) :
    (dat2 V c).arrAt 5 cfg2.N = (fun i => lin 64 w b x ((i 0 : ℕ) : ℤ) (i 1 : ℕ) (i 2 : ℕ) : FVec Ideal S320x2x320 .f32) := by
  refine (dat2 V c).arrAt_eq_of_covers 5 _ (by decide +kernel) fun t hf y => ?_
  obtain ⟨et, ht, i0, i1, i2, i3, i4, i5⟩ := idx2 t
  blk_simp [i5]
  rw [after2_5]
  obtain ⟨a, o, l, rfl⟩ : ∃ (a : Fin 32) (o : Fin 2) (l : Fin 320), y = ix3 a o l := ⟨y 0, y 1, y 2, by funext q; fin_cases q <;> rfl⟩
  refine (out2_apply (ext 2 x) w b (grid2.coords t) _ _ _ _ _ ?_ ?_ ?_ ?_ ?_ a o l).trans ?_
  · intro a k l
    refine .trans ?_ ((hx ⟨2 * (16 * t.val - 1) + a.val, by omega⟩ k l).trans (ext_read _ _ _ _ _ _ ?_))
    · blk_ext [iblk2, i1]
    · rw [et]; simp only []; omega
  · intro a k l
    refine .trans ?_ ((hx ⟨32 * t.val + a.val, by omega⟩ k l).trans (ext_read _ _ _ _ _ _ ?_))
    · blk_ext [iblk2, i0]
    · rw [et]; simp only []; omega
  · intro a k l
    refine .trans ?_ ((hx ⟨2 * (min (16 * (t.val + 1)) 159) + a.val, by omega⟩ k l).trans (ext_read _ _ _ _ _ _ ?_))
    · blk_ext [iblk2, i2]
    · rw [et]; simp only []; omega
  · intro o j; refine .trans ?_ (h3 o j); blk_ext [iblk2, i3]
  · intro o; refine .trans ?_ (h4 o); blk_ext [iblk2, i4]
  · rw [et, lin_agree (ext_agree 2 x) 64 w b _ _ _ (by omega) (by omega)]
    congr 1
    simp only [ix3_0]
    push_cast; ring

end Cert.Grid
-- ==== Proof.Host.lean ====
module

public import proofs.«01_k».proof.Proof.Region
public import Idealize.ShloMosaic.Lib.StableHlo.ReadAt
public import Idealize.ShloMosaic.Lib.Pointwise.IndexVar
public import Idealize.ShloMosaic.Lib.ValueLayout

@[expose] public section

set_option maxRecDepth 16384

noncomputable section

/-! What the host's stretches leave in the arrays the regions read. -/

namespace Cert.Grid

open Idealize.ShloMosaic Idealize.ShloMosaic.TcCoe Cert.KernelIdeal Cert.KernelIdeal.Gen

variable (W : Valuation τ sig (Elt Ideal))

/-- The side conditions of laying three matrices of `f` rows, each transposed, side by side. -/
structure WcOk (f o : ℕ) : Prop where
  s0 : (B3 3 f o).Slices ![0, 0, 0] (B3 1 f o)
  s1 : (B3 3 f o).Slices ![1, 0, 0] (B3 1 f o)
  s2 : (B3 3 f o).Slices ![2, 0, 0] (B3 1 f o)
  sc : (B3 1 f o).ShapeCasts ⟨2, ![f, o]⟩
  tr : Shape.Transposes ⟨2, ![f, o]⟩ [1, 0] ⟨2, ![o, f]⟩
  cc : Shape.Concatenates [⟨2, ![o, f]⟩, ⟨2, ![o, f]⟩, ⟨2, ![o, f]⟩] ⟨2, ![o, 3 * f]⟩ 1

/-- Three matrices, each transposed, side by side. -/
def wcat {f o : ℕ} (h : WcOk f o) (x : FVec Ideal ⟨3, ![3, f, o]⟩ .f32) : FVec Ideal ⟨2, ![o, 3 * f]⟩ .f32 :=
  concatenate ⟨2, ![o, 3 * f]⟩ 1
    [⟨⟨2, ![o, f]⟩, transpose ⟨2, ![o, f]⟩ [1, 0] (shapeCast ⟨2, ![f, o]⟩ (extractStridedSlice ⟨3, ![1, f, o]⟩ ![0, 0, 0] x h.s0) h.sc) h.tr⟩,
     ⟨⟨2, ![o, f]⟩, transpose ⟨2, ![o, f]⟩ [1, 0] (shapeCast ⟨2, ![f, o]⟩ (extractStridedSlice ⟨3, ![1, f, o]⟩ ![1, 0, 0] x h.s1) h.sc) h.tr⟩,
     ⟨⟨2, ![o, f]⟩, transpose ⟨2, ![o, f]⟩ [1, 0] (shapeCast ⟨2, ![f, o]⟩ (extractStridedSlice ⟨3, ![1, f, o]⟩ ![2, 0, 0] x h.s2) h.sc) h.tr⟩] h.cc

/-- A matrix kept as a one-page array, read without the page. -/
theorem page_equiv {f o : ℕ} (h : (⟨2, ![f, o]⟩ : Shape).numel = (B3 1 f o).numel) (a : Fin f) (b : Fin o) :
    Shape.reshapeEquiv h (ix2 a b) = ix3 0 a b := ValueIdx.reshapeEquiv_ix2_1ab h a b

set_option backward.isDefEq.respectTransparency false in
theorem wcat_apply {f o : ℕ} (h : WcOk f o) (x : FVec Ideal ⟨3, ![3, f, o]⟩ .f32) (p : Fin o) (j : Fin (3 * f)) (t : Fin 3) (k : Fin f)
    (hj : (j : ℕ) = t * f + k) : wcat h x (ix2 p j) = x (ix3 t k p) := by
  pointwise [wcat]
  simp only [page_equiv]
  fin_cases t
  · rw [dif_pos (by simp at hj; omega)]; congr 2; ext; simp at hj; exact hj
  · rw [dif_neg (by simp at hj; omega), dif_pos (by simp at hj; omega)]; congr 2; ext; simp at hj ⊢; omega
  · rw [dif_neg (by simp at hj; omega), dif_neg (by simp at hj; omega)]; congr 2; ext; simp at hj ⊢; omega

theorem wcA : WcOk 8 64 := ⟨slices_S3x8x64_S1x8x64_0_0_0, slices_S3x8x64_S1x8x64_1_0_0, slices_S3x8x64_S1x8x64_2_0_0, shapeCasts_S1x8x64_S8x64,
  transposes_S8x64_S64x8_1_0, concatenates_S64x8_S64x8_S64x8_S64x24_d1⟩

theorem wcB : WcOk 64 64 := ⟨slices_S3x64x64_S1x64x64_0_0_0, slices_S3x64x64_S1x64x64_1_0_0, slices_S3x64x64_S1x64x64_2_0_0, shapeCasts_S1x64x64_S64x64,
  transposes_S64x64_S64x64_1_0, concatenates_S64x64_S64x64_S64x64_S64x192_d1⟩

theorem wcC : WcOk 64 2 := ⟨slices_S3x64x2_S1x64x2_0_0_0, slices_S3x64x2_S1x64x2_1_0_0, slices_S3x64x2_S1x64x2_2_0_0, shapeCasts_S1x64x2_S64x2,
  transposes_S64x2_S2x64_1_0, concatenates_S2x64_S2x64_S2x64_S2x192_d1⟩

/-! The first stretch: the input with the channels in the middle, the first two layers' weights and biases. -/

theorem host_x (r : Fin 320) (k : Fin 8) (l : Fin 320) :
    (StableHlo.after hostOps0 W (Proc.devRef .tc main_v2) : FVec Ideal S320x8x320 .f32) (ix3 r k l)
      = (W (Proc.devRef .tc main_arg0) : FVec Ideal S1x102400x8 .f32) (ix3 0 ⟨r * 320 + l, by omega⟩ k) := by
  after_reads_at

theorem host_w1 : (StableHlo.after hostOps0 W (Proc.devRef .tc main_v12) : FVec Ideal S64x24 .f32) = wcat wcA (W (Proc.devRef .tc main_arg1) : FVec Ideal S3x8x64 .f32) := by
  after_results
  dsimp only [Matrix.cons_val_zero, Matrix.cons_val_one, Matrix.cons_val]
  rfl

theorem host_b1 (o : Fin 64) : (StableHlo.after hostOps0 W (Proc.devRef .tc main_v13) : FVec Ideal S1x64x1 .f32) (ix3 0 o 0)
    = (W (Proc.devRef .tc main_arg2) : FVec Ideal S64 .f32) (ix1 o) := by
  after_reads_at

theorem host_w2 : (StableHlo.after hostOps0 W (Proc.devRef .tc main_v23) : FVec Ideal S64x192 .f32) = wcat wcB (W (Proc.devRef .tc main_arg3) : FVec Ideal S3x64x64 .f32) := by
  after_results
  dsimp only [Matrix.cons_val_zero, Matrix.cons_val_one, Matrix.cons_val]
  rfl

theorem host_b2 (o : Fin 64) : (StableHlo.after hostOps0 W (Proc.devRef .tc main_v24) : FVec Ideal S1x64x1 .f32) (ix3 0 o 0)
    = (W (Proc.devRef .tc main_arg4) : FVec Ideal S64 .f32) (ix1 o) := by
  after_reads_at

/-! The second stretch: the third and fourth layers' weights and biases. -/

theorem host_w3 : (StableHlo.after hostOps1 W (Proc.devRef .tc main_v35) : FVec Ideal S64x192 .f32) = wcat wcB (W (Proc.devRef .tc main_arg5) : FVec Ideal S3x64x64 .f32) := by
  after_results
  dsimp only [Matrix.cons_val_zero, Matrix.cons_val_one, Matrix.cons_val]
  rfl

theorem host_b3 (o : Fin 64) : (StableHlo.after hostOps1 W (Proc.devRef .tc main_v36) : FVec Ideal S1x64x1 .f32) (ix3 0 o 0)
    = (W (Proc.devRef .tc main_arg6) : FVec Ideal S64 .f32) (ix1 o) := by
  after_reads_at

theorem host_w4 : (StableHlo.after hostOps1 W (Proc.devRef .tc main_v46) : FVec Ideal S64x192 .f32) = wcat wcB (W (Proc.devRef .tc main_arg7) : FVec Ideal S3x64x64 .f32) := by
  after_results
  dsimp only [Matrix.cons_val_zero, Matrix.cons_val_one, Matrix.cons_val]
  rfl

theorem host_b4 (o : Fin 64) : (StableHlo.after hostOps1 W (Proc.devRef .tc main_v47) : FVec Ideal S1x64x1 .f32) (ix3 0 o 0)
    = (W (Proc.devRef .tc main_arg8) : FVec Ideal S64 .f32) (ix1 o) := by
  after_reads_at

/-! The third stretch: the last layer's weights and bias. -/

theorem host_w5 : (StableHlo.after hostOps2 W (Proc.devRef .tc main_v58) : FVec Ideal S2x192 .f32) = wcat wcC (W (Proc.devRef .tc main_arg9) : FVec Ideal S3x64x2 .f32) := by
  after_results
  dsimp only [Matrix.cons_val_zero, Matrix.cons_val_one, Matrix.cons_val]
  rfl

theorem host_b5 (o : Fin 2) : (StableHlo.after hostOps2 W (Proc.devRef .tc main_v59) : FVec Ideal S1x2x1 .f32) (ix3 0 o 0)
    = (W (Proc.devRef .tc main_arg10) : FVec Ideal S2 .f32) (ix1 o) := by
  after_reads_at

/-- The last stretch: the result, node by node. -/
theorem host_out (n : Fin 102400) (o : Fin 2) :
    (StableHlo.after hostOps3 W (Proc.devRef .tc main_v62) : FVec Ideal S1x102400x2 .f32) (ix3 0 n o)
      = (W (Proc.devRef .tc main_v60) : FVec Ideal S320x2x320 .f32) (ix3 ⟨n / 320, by omega⟩ o ⟨n % 320, by omega⟩) := by
  after_reads_at

end Cert.Grid
-- ==== Proof.Net.lean ====
module

public import proofs.«01_k».proof.Proof.Layer

@[expose] public section

noncomputable section

/-! The whole network, as one function of what the arguments hold. -/

namespace Cert.Grid

open Idealize.ShloMosaic

/-- The network's inputs: the field, and the five layers' weights and biases. -/
structure Ins where
  x : Field
  w1 : ℕ → ℕ → ℕ → EReal
  b1 : ℕ → EReal
  w2 : ℕ → ℕ → ℕ → EReal
  b2 : ℕ → EReal
  w3 : ℕ → ℕ → ℕ → EReal
  b3 : ℕ → EReal
  w4 : ℕ → ℕ → ℕ → EReal
  b4 : ℕ → EReal
  w5 : ℕ → ℕ → ℕ → EReal
  b5 : ℕ → EReal

/-- The field after the four hidden layers. -/
def Ins.hid (I : Ins) : Field := act 64 I.w4 I.b4 (act 64 I.w3 I.b3 (act 64 I.w2 I.b2 (act 8 I.w1 I.b1 I.x)))

/-- The network's result at a node and a channel. -/
def Ins.out (I : Ins) (n o : ℕ) : EReal := lin 64 I.w5 I.b5 I.hid ((n / 320 : ℕ) : ℤ) o (n % 320)

/-- An array of weights holds `w`. -/
def HoldsW {f o : ℕ} (a : FVec Ideal (B3 3 f o) .f32) (w : ℕ → ℕ → ℕ → EReal) : Prop :=
  ∀ (t : Fin 3) (k : Fin f) (p : Fin o), a (ix3 t k p) = w t k p

/-- An array of biases holds `b`. -/
def HoldsB {o : ℕ} (a : FVec Ideal ⟨1, ![o]⟩ .f32) (b : ℕ → EReal) : Prop := ∀ p : Fin o, a (ix1 p) = b p

/-- The argument arrays hold the inputs. -/
structure Ins.Holds (I : Ins) (a0 : FVec Ideal (B3 1 102400 8) .f32) (a1 : FVec Ideal (B3 3 8 64) .f32) (a2 : FVec Ideal ⟨1, ![64]⟩ .f32)
    (a3 : FVec Ideal (B3 3 64 64) .f32) (a4 : FVec Ideal ⟨1, ![64]⟩ .f32) (a5 : FVec Ideal (B3 3 64 64) .f32) (a6 : FVec Ideal ⟨1, ![64]⟩ .f32)
    (a7 : FVec Ideal (B3 3 64 64) .f32) (a8 : FVec Ideal ⟨1, ![64]⟩ .f32) (a9 : FVec Ideal (B3 3 64 2) .f32) (a10 : FVec Ideal ⟨1, ![2]⟩ .f32) : Prop where
  x : ∀ (n : Fin 102400) (k : Fin 8), a0 (ix3 0 n k) = (I.x (((n : ℕ) / 320 : ℕ) : ℤ) k ((n : ℕ) % 320))
  w1 : HoldsW a1 I.w1
  b1 : HoldsB a2 I.b1
  w2 : HoldsW a3 I.w2
  b2 : HoldsB a4 I.b2
  w3 : HoldsW a5 I.w3
  b3 : HoldsB a6 I.b3
  w4 : HoldsW a7 I.w4
  b4 : HoldsB a8 I.b4
  w5 : HoldsW a9 I.w5
  b5 : HoldsB a10 I.b5

end Cert.Grid
-- ==== Proof.Run.lean ====
module

public import proofs.«01_k».proof.Proof.Host
public import proofs.«01_k».proof.Proof.Net

@[expose] public section

set_option maxRecDepth 16384

noncomputable section

/-! The kernel's run: its result is the network's. -/

namespace Cert.Grid

open Idealize.ShloMosaic Idealize.ShloMosaic.TcCoe Cert.KernelIdeal Cert.KernelIdeal.Gen

/-- The weights laid side by side, by polynomial and channel. -/
theorem wcat_holds {f o : ℕ} (hf : 0 < f) (h : WcOk f o) (a : FVec Ideal (B3 3 f o) .f32) (w : ℕ → ℕ → ℕ → EReal) (hw : HoldsW a w)
    (p : Fin o) (j : Fin (3 * f)) : wcat h a (ix2 p j) = w (j / f) (j % f) p := by
  have h3 : (j : ℕ) / f < 3 := (Nat.div_lt_iff_lt_mul hf).2 j.2
  rw [wcat_apply h a p j ⟨j / f, h3⟩ ⟨j % f, Nat.mod_lt _ hf⟩ (Nat.div_add_mod' (j : ℕ) f).symm]
  exact hw _ _ _

variable (m : (ℓ : Loc nD τ sig) → Buf (Elt Ideal) ℓ) (ρ : Dev nD → PrngReg)

/-- The arguments in a core's memory hold the inputs. -/
abbrev MemHolds (I : Ins) (c : Dev nD) : Prop :=
  I.Holds (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10))

variable (I : Ins) (c : Dev nD) (H : MemHolds m I c)

include H in
theorem W2_out : (W2 m ρ c (Proc.devRef .tc main_v25) : FVec Ideal S320x64x320 .f32)
    = fun i => (act 64 I.w2 I.b2 (act 8 I.w1 I.b1 I.x) ((i 0 : ℕ) : ℤ) (i 1 : ℕ) (i 2 : ℕ)) := by
  refine (W2_arr m ρ c 7).trans (arr0 (V1 m ρ) c I.x I.w1 I.w2 I.b1 I.b2 ?_ ?_ ?_ ?_ ?_)
  · intro r k l
    refine (host_x (W0 m ρ c) r k l).trans ((H.x _ k).trans ?_)
    rw [show ((⟨r * 320 + l, by omega⟩ : Fin 102400) : ℕ) / 320 = r by simp only []; omega,
      show ((⟨r * 320 + l, by omega⟩ : Fin 102400) : ℕ) % 320 = l by simp only []; omega]
  · intro o j; exact (congrFun (host_w1 (W0 m ρ c)) _).trans (wcat_holds (by decide) wcA _ _ H.w1 o j)
  · intro o; exact (host_b1 (W0 m ρ c) o).trans (H.b1 o)
  · intro o j; exact (congrFun (host_w2 (W0 m ρ c)) _).trans (wcat_holds (by decide) wcB _ _ H.w2 o j)
  · intro o; exact (host_b2 (W0 m ρ c) o).trans (H.b2 o)

include H in
theorem W4_out : (W4 m ρ c (Proc.devRef .tc main_v48) : FVec Ideal S320x64x320 .f32)
    = fun i => (I.hid ((i 0 : ℕ) : ℤ) (i 1 : ℕ) (i 2 : ℕ)) := by
  refine (W4_arr m ρ c 7).trans (arr1 (V3 m ρ) c _ I.w3 I.w4 I.b3 I.b4 ?_ ?_ ?_ ?_ ?_)
  · intro r k l
    exact (congrFun ((W3_of m ρ c main_v25 (by decide)).trans (W2_out m ρ I c H)) (ix3 r k l))
  · intro o j
    exact (congrFun ((host_w3 (W2 m ρ c)).trans (congrArg (wcat wcB) (W2_args m ρ c main_arg5 (by decide)))) _).trans (wcat_holds (by decide) wcB _ _ H.w3 o j)
  · intro o; exact (host_b3 (W2 m ρ c) o).trans ((congrFun (W2_args m ρ c main_arg6 (by decide)) (ix1 o)).trans (H.b3 o))
  · intro o j
    exact (congrFun ((host_w4 (W2 m ρ c)).trans (congrArg (wcat wcB) (W2_args m ρ c main_arg7 (by decide)))) _).trans (wcat_holds (by decide) wcB _ _ H.w4 o j)
  · intro o; exact (host_b4 (W2 m ρ c) o).trans ((congrFun (W2_args m ρ c main_arg8 (by decide)) (ix1 o)).trans (H.b4 o))

include H in
/-- The third region's result is the last layer of the hidden field. -/
theorem W6_out : (W6 m ρ c (Proc.devRef .tc main_v60) : FVec Ideal S320x2x320 .f32)
    = fun i => lin 64 I.w5 I.b5 I.hid ((i 0 : ℕ) : ℤ) (i 1 : ℕ) (i 2 : ℕ) := by
  refine (W6_arr m ρ c 5).trans (arr2 (V5 m ρ) c _ I.w5 I.b5 ?_ ?_ ?_)
  · intro r k l
    exact (congrFun ((W5_of m ρ c main_v48 (by decide)).trans (W4_out m ρ I c H)) (ix3 r k l))
  · intro o j
    exact (congrFun ((host_w5 (W4 m ρ c)).trans (congrArg (wcat wcC) (W4_args m ρ c main_arg9 (by decide)))) _).trans (wcat_holds (by decide) wcC _ _ H.w5 o j)
  · intro o; exact (host_b5 (W4 m ρ c) o).trans ((congrFun (W4_args m ρ c main_arg10 (by decide)) (ix1 o)).trans (H.b5 o))

include H in
/-- The kernel's result buffer ends at the network's result. -/
theorem W7_out (n : Fin 102400) (o : Fin 2) : (W7 m ρ c (Proc.devRef .tc main_v62) : FVec Ideal S1x102400x2 .f32) (ix3 0 n o) = I.out n o :=
  (host_out (W6 m ρ c) n o).trans (congrFun (W6_out m ρ I c H) _)

open Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

local notation "𝕄" => MT nD τ sig Unit (Elt Ideal) ℕ (UR sig nD τ) ℕ

-- the launch rule's implicit arguments are found by unifying its conclusion with this one
set_option backward.isDefEq.respectTransparency.types false in
/-- The kernel's run: from any memory it ends with the result buffer at the last boundary's contents and the arguments unchanged. -/
theorem run : θ_run defs (onTc (τ := τ) (main (F := Ideal))) ⟨m, fun _ => 0, ρ⟩ (fun r => ∀ c : Dev nD,
      r.2.mem ((c.tc : Thread nD τ).loc main_v62) = W7 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => (fun c =>
      ⟨h c _ (mem_uc main_v62 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c)⟩))

end Cert.Grid
-- ==== Proof.Rows.lean ====
module

public import Idealize.ShloMosaic.Lib.Pointwise
public import Idealize.ShloMosaic.Lib.Routing.OpsPair

@[expose] public section

set_option maxRecDepth 16384

noncomputable section

/-! Where the rows of a scatter land. -/

namespace Cert.Grid

open Idealize.ShloMosaic Idealize.ShloMosaic.TcCoe

abbrev B2 (a b : ℕ) : Shape := ⟨2, ![a, b]⟩

/-- Update `(e, y)` of a scatter of rows lands at `(r, c)` exactly when its index word, read signed, is `r`, and `y` is `c`. -/
theorem row_lands {R C n : ℕ} (d : ScatterDims (B2 R C) (B2 n 1) (B2 n C)) (huw : d.updateWindowDims = [1]) (hiw : d.insertedWindowDims = [0])
    (hsd : d.scatterDimsToOperandDims = [0]) (hivd : d.indexVectorDim = 1) (idx : IVec (B2 n 1) 32) (e : Fin n) (y c : Fin C) (r : Fin R) :
    d.resultIdx? (ix2 e y) idx = some (ix2 r c) ↔ (idx (ix2 e 0)).toInt = r.val ∧ y = c := by
  have hk : d.sKept = [1] := by
    show (B2 R C).kept d.insertedWindowDims = _
    rw [hiw]; rfl
  have hu : d.uScatter = [0] := by
    show (B2 n C).kept d.updateWindowDims = _
    rw [huw]; rfl
  have one : ∀ (l : List (Fin 2)) (i : ℕ) (h : i < l.length) (q : Fin 2), l = [q] → l[i]'h = q := by
    intro l i h q hl
    subst hl
    obtain rfl : i = 0 := by simpa using h
    rfl
  have w0 : d.window (ix2 e y) 0 = 0 := by
    unfold ScatterDims.window
    rw [dif_neg (by rw [hk]; exact (by decide : (0 : Fin 2) ∉ [(1 : Fin 2)]))]
  have w1 : d.window (ix2 e y) 1 = y.val := by
    unfold ScatterDims.window
    rw [dif_pos (by rw [hk]; exact (by decide : (1 : Fin 2) ∈ [(1 : Fin 2)]))]
    rw [one _ _ _ 1 huw]
    rfl
  have s1 : d.start (ix2 e y) idx 1 = 0 := by
    unfold ScatterDims.start
    rw [dif_neg (by rw [hsd]; exact (by decide : (1 : Fin 2) ∉ [(0 : Fin 2)]))]
  have s0 : d.start (ix2 e y) idx 0 = (idx (ix2 e 0)).toInt := by
    unfold ScatterDims.start
    rw [dif_pos (by rw [hsd]; exact (by decide : (0 : Fin 2) ∈ [(0 : Fin 2)]))]
    refine congrArg (fun j => (idx j).toInt) (funext fun b => ?_)
    match b with
    | ⟨0, _⟩ =>
      apply Fin.ext
      unfold ScatterDims.siIdx
      rw [dif_neg (by rw [hivd]; exact (by decide : (0 : ℕ) ≠ 1))]
      unfold ScatterDims.siCoord
      simp only [Fin.val_cast]
      rw [one _ _ _ 0 hu]
      rfl
    | ⟨1, _⟩ => exact Subsingleton.elim (α := Fin 1) _ _
  have key := Routing.resultIdx?_ix2 d (ix2 e y) idx r c
  rw [s0, s1, w0, w1] at key
  refine key.trans ?_
  rw [Fin.ext_iff]
  omega

end Cert.Grid
-- ==== Proof.Sparse.lean ====
module

public import proofs.«01_k».proof.Proof.Net
public import proofs.«01_k».proof.Proof.Rows
public import proofs.«01_k».proof.Proof.Gen.ReferenceIdeal.Run
public import Idealize.ShloMosaic.Lib.Pointwise.IndexVar
public import Idealize.ShloMosaic.Lib.Routing.Ops
public import Idealize.ShloMosaic.Lib.Tactic.WordOmega

@[expose] public section

set_option maxRecDepth 16384

noncomputable section

/-! The reference's sparse product, of any number of channels. -/

namespace Cert.Grid

open Idealize.ShloMosaic Idealize.ShloMosaic.TcCoe Cert.ReferenceIdeal Cert.ReferenceIdeal.Gen

/-- The edge arrays hold the grid's edge list. -/
structure Edges (rows cols : IVec S408960 32) (vals : FVec Ideal S408960 .f32) : Prop where
  row : ∀ e : Fin 408960, rows (ix1 e) = BitVec.ofNat 32 (rowN e)
  col : ∀ e : Fin 408960, cols (ix1 e) = BitVec.ofNat 32 (colN e)
  val : ∀ e : Fin 408960, vals (ix1 e) = (valN e : EReal)

/-- The target nodes, a negative one counted from the end, as a column. -/
def wcol (cols : IVec S408960 32) : IVec S408960x1 32 :=
  broadcastInDim S408960x1 ![0] bcast_S408960_S408960x1_0 (select (cmpi .slt cols (broadcastInDim S408960 ![] bcast_S_S408960 (constantI S_ 32 0#32)))
    (addi cols (broadcastInDim S408960 ![] bcast_S_S408960 (constantI S_ 32 102400#32))) cols)

theorem wcol_apply (cols : IVec S408960 32) (h : ∀ e : Fin 408960, cols (ix1 e) = BitVec.ofNat 32 (colN e)) (e : Fin 408960) :
    wcol cols (ix2 e 0) = BitVec.ofNat 32 (colN e) := by
  have hc := colN_lt e.2
  pointwise [wcol]
  rw [h e]
  exact Routing.wrap_of_lt _ _ (by rw [BitVec.toNat_ofNat, Nat.mod_eq_of_lt (by omega)]; omega)

/-- Which target nodes are in range. -/
def inb (v : IVec S408960x1 32) : IVec S408960 1 :=
  Host.reduce IntOp.andi (andi (cmpi .sge v (broadcastInDim S408960x1 ![] bcast_S_S408960x1 (constantI S_ 32 0#32)))
    (cmpi .sle v (broadcastInDim S408960x1 ![0, 1] bcast_S1x1_S408960x1_0_1 (broadcastInDim S1x1 ![1] bcast_S1_S1x1_1 (constantI S1 32 102399#32)))))
    (constantI S_ 1 1#1) reducesTo_S408960x1_S408960_d1 h_S_

theorem inb_apply (v : IVec S408960x1 32) (e : Fin 408960) (n : ℕ) (hn : n < 102400) (h : v (ix2 e 0) = BitVec.ofNat 32 n) : inb v (ix1 e) = 1#1 := by
  pointwise [inb]
  rw [show (Finset.univ : Finset (Fin 1)) = {0} from rfl, Finset.fold_singleton]
  show IntOp.andi (IntOp.andi (IntOp.cmpi .sge (v (ix2 e 0)) 0#32) (IntOp.cmpi .sle (v (ix2 e 0)) 102399#32)) 1#1 = 1#1
  rw [h, (WordCmp.cmpi_sge_ofNat_eq_one_iff (w := 32) (a := n) (b := 0) (by omega) (by omega)).2 (by omega),
    (WordCmp.cmpi_sle_ofNat_eq_one_iff (w := 32) (a := n) (b := 102399) (by omega) (by omega)).2 (by omega)]
  rfl

/-- The side conditions and dimension numbers of the sparse product at `f` channels. -/
structure SpOk (f : ℕ) where
  sd : ScatterDims (B2 102400 f) (B2 408960 1) (B2 408960 f)
  gd : GatherDims (B2 102400 f) (B2 408960 1) (B2 408960 f)
  s1 : sd.updateWindowDims = [1]
  s2 : sd.insertedWindowDims = [0]
  s3 : sd.scatterDimsToOperandDims = [0]
  s4 : sd.indexVectorDim = 1
  g1 : gd.offsetDims = [1]
  g2 : gd.collapsedSliceDims = [0]
  g3 : gd.operandBatchingDims = []
  g4 : gd.startIndexMap = [0]
  g5 : gd.indexVectorDim = 1
  b0 : S_.BroadcastsInDim (B2 102400 f) (![] : Fin 0 → Fin 2)
  b1 : S408960.BroadcastsInDim (B2 408960 f) (![0] : Fin 1 → Fin 2)
  b2 : S_.BroadcastsInDim (B2 408960 f) (![] : Fin 0 → Fin 2)
  b3 : S408960x1.BroadcastsInDim (B2 408960 f) (![0, 1] : Fin 2 → Fin 2)

/-- Each edge's term: the target's channels times the edge's weight. -/
def msg {f : ℕ} (h : SpOk f) (v : IVec S408960x1 32) (vals : FVec Ideal S408960 .f32) (x : FVec Ideal (B2 102400 f) .f32) : FVec Ideal (B2 408960 f) .f32 :=
  mulf (select (broadcastInDim (B2 408960 f) ![0] h.b1 (inb v)) (Host.gather h.gd x v)
      (broadcastInDim (B2 408960 f) ![] h.b2 (constant S_ .f32 0x7FC00000#32)))
    (broadcastInDim (B2 408960 f) ![0, 1] h.b3 (broadcastInDim S408960x1 ![0] bcast_S408960_S408960x1_0 vals))

/-- The sparse product: the edges' terms added up at their sources. -/
def spmm {f : ℕ} (h : SpOk f) (rows : IVec S408960 32) (v : IVec S408960x1 32) (vals : FVec Ideal S408960 .f32) (x : FVec Ideal (B2 102400 f) .f32) :
    FVec Ideal (B2 102400 f) .f32 :=
  Host.scatterAdd h.sd (broadcastInDim (B2 102400 f) ![] h.b0 (constant S_ .f32 0x00000000#32)) (broadcastInDim S408960x1 ![0] bcast_S408960_S408960x1_0 rows)
    (msg h v vals x)

theorem msg_apply {f : ℕ} (h : SpOk f) (v : IVec S408960x1 32) (vals : FVec Ideal S408960 .f32) (x : FVec Ideal (B2 102400 f) .f32)
    (e : Fin 408960) (k : Fin f) (n : Fin 102400) (a b : EReal) (hv : v (ix2 e 0) = BitVec.ofNat 32 n.val) (ha : x (ix2 n k) = a) (hb : vals (ix1 e) = b) :
    msg h v vals x (ix2 e k) = a * b := by
  have hg : Host.gather h.gd x v (ix2 e k) = x (ix2 n k) := Routing.gather_row h.gd h.g1 h.g2 h.g3 h.g4 h.g5 x v e k n hv (by norm_num)
  have hi := inb_apply v e n n.2 hv
  generalize hG : Host.gather h.gd x v = G at *
  generalize hM : inb v = M at *
  pointwise [msg, hG, hM]
  rw [hi, hg, ha, hb]
  rfl

theorem spmm_apply {f : ℕ} (h : SpOk f) (rows : IVec S408960 32) (cols : IVec S408960 32) (vals : FVec Ideal S408960 .f32) (E : Edges rows cols vals)
    (x : FVec Ideal (B2 102400 f) .f32) (X : Field) (hX : Sided X)
    (hx : ∀ (n : Fin 102400) (k : Fin f), x (ix2 n k) = X (((n : ℕ) / 320 : ℕ) : ℤ) k ((n : ℕ) % 320))
    (n : Fin 102400) (k : Fin f) : spmm h rows (wcol cols) vals x (ix2 n k) = c1 X (((n : ℕ) / 320 : ℕ) : ℤ) k ((n : ℕ) % 320) := by
  have hm : ∀ e : Fin 408960, msg h (wcol cols) vals x (ix2 e k) = X ((colN e / 320 : ℕ) : ℤ) k (colN e % 320) * (valN e : EReal) := fun e =>
    msg_apply h _ _ _ e k ⟨colN e, colN_lt e.2⟩ _ _ (wcol_apply cols E.col e) (hx _ k) (E.val e)
  have hr : ∀ (e : Fin 408960) (y : Fin f), h.sd.resultIdx? (ix2 e y) (broadcastInDim S408960x1 ![0] bcast_S408960_S408960x1_0 rows) = some (ix2 n k)
      ↔ rowN e = n ∧ y = k := fun e y => by
    have hlt := rowN_lt e.2
    refine (row_lands h.sd h.s1 h.s2 h.s3 h.s4 _ e y k n).trans (and_congr_left fun _ => ?_)
    rw [show broadcastInDim S408960x1 ![0] bcast_S408960_S408960x1_0 rows (ix2 e 0) = BitVec.ofNat 32 (rowN e) by pointwise; exact E.row e,
      BitVec.toInt_eq_toNat_of_lt (by rw [BitVec.toNat_ofNat, Nat.mod_eq_of_lt (by omega)]; omega), BitVec.toNat_ofNat, Nat.mod_eq_of_lt (by omega)]
    omega
  have h0 : broadcastInDim (B2 102400 f) ![] h.b0 (constant (F := Ideal) S_ .f32 0x00000000#32) (ix2 n k) = 0 := by pointwise
  rw [← edge_c1 hX k n.2, ← Fin.sum_univ_eq_sum_range (fun e => if rowN e = n then X ((colN e / 320 : ℕ) : ℤ) k (colN e % 320) * (valN e : EReal) else 0)]
  have hs : spmm h rows (wcol cols) vals x (ix2 n k)
      = ∑ j ∈ Finset.univ.filter (fun j => h.sd.resultIdx? j (broadcastInDim S408960x1 ![0] bcast_S408960_S408960x1_0 rows) = some (ix2 n k)), msg h (wcol cols) vals x j := by
    unfold spmm Host.scatterAdd
    rw [Ideal.hostScatterAdd_def]
    unfold Ideal.hostScatterAdd
    rw [h0, zero_add]
  have hR : (∑ e : Fin 408960, if rowN e = n then X ((colN e / 320 : ℕ) : ℤ) k (colN e % 320) * (valN e : EReal) else 0)
      = ∑ e ∈ Finset.univ.filter (fun e : Fin 408960 => rowN e = n), X ((colN e / 320 : ℕ) : ℤ) k (colN e % 320) * (valN e : EReal) := by
    rw [Finset.sum_filter]
  rw [hs, hR]
  have hj : ∀ j : (B2 408960 f).Idx, h.sd.resultIdx? j (broadcastInDim S408960x1 ![0] bcast_S408960_S408960x1_0 rows) = some (ix2 n k) →
      rowN (j 0 : Fin 408960) = n ∧ j = ix2 (j 0) k := fun j hj => by
    obtain ⟨e, y, rfl⟩ : ∃ (e : Fin 408960) (y : Fin f), j = ix2 e y := ⟨j 0, j 1, by funext q; fin_cases q <;> rfl⟩
    obtain ⟨h1, rfl⟩ := (hr e y).1 hj
    exact ⟨h1, rfl⟩
  refine Finset.sum_bij' (fun j _ => (j 0 : Fin 408960)) (fun e _ => ix2 e k) (fun j h' => ?_) (fun e he => ?_) (fun j h' => ?_) (fun e he => ?_) (fun j h' => ?_)
  · exact Finset.mem_filter.2 ⟨Finset.mem_univ _, (hj j (Finset.mem_filter.1 h').2).1⟩
  · exact Finset.mem_filter.2 ⟨Finset.mem_univ _, (hr e k).2 ⟨(Finset.mem_filter.1 he).2, rfl⟩⟩
  · exact (hj j (Finset.mem_filter.1 h').2).2.symm
  · rfl
  · rw [(hj j (Finset.mem_filter.1 h').2).2]; exact hm _

end Cert.Grid
-- ==== Proof.Stack.lean ====
module

public import proofs.«01_k».proof.Proof.Sparse

@[expose] public section

set_option maxRecDepth 16384

noncomputable section

/-! One layer of the reference, of any number of channels. -/

namespace Cert.Grid

open Idealize.ShloMosaic Idealize.ShloMosaic.TcCoe Cert.ReferenceIdeal Cert.ReferenceIdeal.Gen

/-- A shape of four axes. -/
abbrev B4 (a b c d : ℕ) : Shape := ⟨4, ![a, b, c, d]⟩

/-- The f32 pattern `0x40000000` is the real two. -/
theorem ofBits_two : Ideal.ofBits .f32 0x40000000#32 = ((2 : ℝ) : EReal) := by
  simp [Ideal.ofBits, Ideal.ieee, -EReal.coe_mul]; norm_num

/-- A column of the flattened array: the polynomial's number and its channel. -/
theorem flat_equiv {m f : ℕ} (hf : 0 < f) (hm : m = 3 * f) (h : (B3 1 102400 m).numel = (B4 1 102400 3 f).numel) (n : Fin 102400) (j : Fin m) :
    Shape.reshapeEquiv h (ix3 0 n j)
      = ix4 0 n ⟨(j : ℕ) / f, by have := j.2; rw [Nat.div_lt_iff_lt_mul hf]; omega⟩ ⟨(j : ℕ) % f, Nat.mod_lt _ hf⟩ := by
  refine Shape.reshapeEquiv_eq_of_rowMajor h ?_
  rw [Shape.rowMajor_val_three, Shape.rowMajor_val_four]
  show ((0 * 102400 + (n : ℕ)) * 3 + (j : ℕ) / f) * f + (j : ℕ) % f = (0 * 102400 + (n : ℕ)) * m + (j : ℕ)
  have := Nat.div_add_mod' (j : ℕ) f
  subst hm
  calc _ = (n : ℕ) * (3 * f) + ((j : ℕ) / f * f + (j : ℕ) % f) := by ring
    _ = _ := by rw [this]; ring

/-- An axis of length one put in. -/
theorem unit_equiv {f : ℕ} (h : (B4 3 102400 1 f).numel = (B3 3 102400 f).numel) (t : Fin 3) (n : Fin 102400) (k : Fin f) :
    Shape.reshapeEquiv h (ix4 t n 0 k) = ix3 t n k := by
  refine Shape.reshapeEquiv_eq_of_rowMajor h ?_
  rw [Shape.rowMajor_val_three, Shape.rowMajor_val_four]
  show ((t : ℕ) * 102400 + (n : ℕ)) * f + (k : ℕ) = (((t : ℕ) * 102400 + (n : ℕ)) * 1 + 0) * f + (k : ℕ)
  ring

/-- A row of the flattened weights. -/
theorem wrow_equiv {m f o : ℕ} (hf : 0 < f) (hm : m = 3 * f) (h : (B2 m o).numel = (B3 3 f o).numel) (j : Fin m) (p : Fin o) :
    Shape.reshapeEquiv h (ix2 j p)
      = ix3 ⟨(j : ℕ) / f, by have := j.2; rw [Nat.div_lt_iff_lt_mul hf]; omega⟩ ⟨(j : ℕ) % f, Nat.mod_lt _ hf⟩ p := by
  refine Shape.reshapeEquiv_eq_of_rowMajor h ?_
  rw [Shape.rowMajor_val_three, Shape.rowMajor_val_two]
  show ((j : ℕ) / f * f + (j : ℕ) % f) * o + (p : ℕ) = (j : ℕ) * o + (p : ℕ)
  rw [Nat.div_add_mod']

/-- The side conditions of a layer from `f` channels, `m` stacked ones, to `o`. -/
structure LyOk (f m o : ℕ) where
  pos : 0 < f
  len : m = 3 * f
  nf : f ≠ 1
  ne : o ≠ 1
  dd : DotDims (B3 1 102400 m) (B2 m o) (B3 1 102400 o)
  b0 : S_.BroadcastsInDim (B2 102400 f) (![] : Fin 0 → Fin 2)
  b1 : (B2 102400 f).BroadcastsInDim (B3 1 102400 f) (![1, 2] : Fin 2 → Fin 3)
  cc : Shape.Concatenates [B3 1 102400 f, B3 1 102400 f, B3 1 102400 f] (B3 3 102400 f) 0
  s1 : (B3 3 102400 f).ShapeCasts (B4 3 102400 1 f)
  tr : (B4 3 102400 1 f).Transposes [2, 1, 0, 3] (B4 1 102400 3 f)
  s2 : (B4 1 102400 3 f).ShapeCasts (B3 1 102400 m)
  s3 : (B3 3 f o).ShapeCasts (B2 m o)
  b2 : (⟨1, ![o]⟩ : Shape).BroadcastsInDim (B3 1 1 o) (![2] : Fin 1 → Fin 3)
  b3 : (B3 1 1 o).BroadcastsInDim (B3 1 102400 o) (![0, 1, 2] : Fin 3 → Fin 3)
  dot : ∀ (x : FVec Ideal (B3 1 102400 m) .f32) (w : FVec Ideal (B2 m o) .f32) (n : Fin 102400) (p : Fin o),
    Host.dotGeneral dd none x w (ix3 0 n p) = ∑ j : Fin m, x (ix3 0 n j) * w (ix2 j p)

/-- Three arrays of channels side by side. -/
def stack {f m o : ℕ} (h : LyOk f m o) (x0 x1 x2 : FVec Ideal (B2 102400 f) .f32) : FVec Ideal (B3 1 102400 m) .f32 :=
  shapeCast (B3 1 102400 m) (transpose (B4 1 102400 3 f) [2, 1, 0, 3] (shapeCast (B4 3 102400 1 f)
    (concatenate (B3 3 102400 f) 0 [⟨B3 1 102400 f, broadcastInDim (B3 1 102400 f) ![1, 2] h.b1 x0⟩,
      ⟨B3 1 102400 f, broadcastInDim (B3 1 102400 f) ![1, 2] h.b1 x1⟩, ⟨B3 1 102400 f, broadcastInDim (B3 1 102400 f) ![1, 2] h.b1 x2⟩] h.cc) h.s1) h.tr) h.s2

set_option backward.isDefEq.respectTransparency false in
theorem stack_apply {f m o : ℕ} (h : LyOk f m o) (x0 x1 x2 : FVec Ideal (B2 102400 f) .f32) (n : Fin 102400) (j : Fin m) :
    stack h x0 x1 x2 (ix3 0 n j) = if hj : (j : ℕ) < f then x0 (ix2 n ⟨j, hj⟩) else if hj : (j : ℕ) - f < f then x1 (ix2 n ⟨(j : ℕ) - f, hj⟩)
      else x2 (ix2 n ⟨(j : ℕ) - f - f, by have := j.2; have := h.len; omega⟩) := by
  have hf := h.pos
  have hl := h.len
  have hj := j.2
  pointwise [stack]
  simp only [flat_equiv h.pos h.len, unit_equiv]
  simp only [dif_neg h.nf]
  show (if _ : (j : ℕ) / f < 1 then x0 (ix2 n ⟨(j : ℕ) % f, Nat.mod_lt _ hf⟩) else if _ : (j : ℕ) / f - 1 < 1 then x1 (ix2 n ⟨(j : ℕ) % f, Nat.mod_lt _ hf⟩)
    else x2 (ix2 n ⟨(j : ℕ) % f, Nat.mod_lt _ hf⟩)) = _
  have hq : ∀ t k, k < f → t * f + k = (j : ℕ) → (j : ℕ) / f = t ∧ (j : ℕ) % f = k := fun t k hk e => by
    rw [← e, mul_comm, Nat.mul_add_div hf, Nat.mul_add_mod, Nat.div_eq_of_lt hk, Nat.mod_eq_of_lt hk]; exact ⟨rfl, rfl⟩
  by_cases a : (j : ℕ) < f
  · obtain ⟨u, v⟩ := hq 0 j a (by omega)
    rw [dif_pos (by omega), dif_pos a]; congr 3
  · by_cases b : (j : ℕ) - f < f
    · obtain ⟨u, v⟩ := hq 1 ((j : ℕ) - f) b (by omega)
      rw [dif_neg (by omega), dif_pos (by omega), dif_neg a, dif_pos b]; congr 3
    · obtain ⟨u, v⟩ := hq 2 ((j : ℕ) - f - f) (by omega) (by omega)
      rw [dif_neg (by omega), dif_neg (by omega), dif_neg a, dif_neg b]; congr 3

/-- The product by the stacked weights, and the bias. -/
def refLin {f m o : ℕ} (h : LyOk f m o) (x0 x1 x2 : FVec Ideal (B2 102400 f) .f32) (w : FVec Ideal (B3 3 f o) .f32) (b : FVec Ideal ⟨1, ![o]⟩ .f32) :
    FVec Ideal (B3 1 102400 o) .f32 :=
  addf (Host.dotGeneral h.dd none (stack h x0 x1 x2) (shapeCast (B2 m o) w h.s3))
    (broadcastInDim (B3 1 102400 o) ![0, 1, 2] h.b3 (broadcastInDim (B3 1 1 o) ![2] h.b2 b))

/-- The third polynomial: twice the product of the second, less the first. -/
def third {f m o : ℕ} (h : LyOk f m o) (y x0 : FVec Ideal (B2 102400 f) .f32) : FVec Ideal (B2 102400 f) .f32 :=
  subf (mulf (broadcastInDim (B2 102400 f) ![] h.b0 (constant S_ .f32 0x40000000#32)) y) x0

theorem third_apply {f m o : ℕ} (h : LyOk f m o) (y x0 : FVec Ideal (B2 102400 f) .f32) (n : Fin 102400) (k : Fin f) (a b : EReal)
    (hy : y (ix2 n k) = a) (hx : x0 (ix2 n k) = b) : third h y x0 (ix2 n k) = ((2 : ℝ) : EReal) * a - b := by
  pointwise [third]
  rw [hy, hx, ofBits_two]

/-- An array of nodes and channels holds a field. -/
def HoldsF {f : ℕ} (a : FVec Ideal (B2 102400 f) .f32) (X : Field) : Prop :=
  ∀ (n : Fin 102400) (k : Fin f), a (ix2 n k) = (X (((n : ℕ) / 320 : ℕ) : ℤ) k ((n : ℕ) % 320))

set_option backward.isDefEq.respectTransparency false in
theorem refLin_apply {f m o : ℕ} (h : LyOk f m o) (x0 x1 x2 : FVec Ideal (B2 102400 f) .f32) (w : FVec Ideal (B3 3 f o) .f32) (b : FVec Ideal ⟨1, ![o]⟩ .f32)
    (X : Field) (W : ℕ → ℕ → ℕ → EReal) (B : ℕ → EReal) (h0 : HoldsF x0 X) (h1 : HoldsF x1 (c1 X)) (h2 : HoldsF x2 (c2 X)) (hw : HoldsW w W) (hb : HoldsB b B)
    (n : Fin 102400) (p : Fin o) : refLin h x0 x1 x2 w b (ix3 0 n p) = lin f W B X (((n : ℕ) / 320 : ℕ) : ℤ) p ((n : ℕ) % 320) := by
  have hd := h.dot (stack h x0 x1 x2) (shapeCast (B2 m o) w h.s3) n p
  have hs : ∀ j : Fin m, shapeCast (B2 m o) w h.s3 (ix2 j p) = W ((j : ℕ) / f) ((j : ℕ) % f) p := fun j => by
    pointwise
    rw [wrow_equiv h.pos h.len]
    exact hw _ _ _
  have hv : (∑ j : Fin m, stack h x0 x1 x2 (ix3 0 n j) * shapeCast (B2 m o) w h.s3 (ix2 j p)) = _ :=
    (Finset.sum_congr rfl fun j _ => by rw [stack_apply, mul_comm]).trans
      (cat_sum (by have := h.len; omega) (fun j => shapeCast (B2 m o) w h.s3 (ix2 j p)) (fun k => x0 (ix2 n k)) (fun k => x1 (ix2 n k)) (fun k => x2 (ix2 n k))
        (fun t k => W t k p) (fun k => X _ k _) (fun k => c1 X _ k _) (fun k => c2 X _ k _) hs (h0 n) (h1 n) (h2 n))
  rw [hv] at hd
  generalize hD : Host.dotGeneral h.dd none (stack h x0 x1 x2) (shapeCast (B2 m o) w h.s3) = D at *
  pointwise [refLin, hD]
  rw [hd, dif_neg h.ne, dif_neg h.ne, hb p]
  rfl

end Cert.Grid
-- ==== Proof.RefNet.lean ====
module

public import proofs.«01_k».proof.Proof.Stack

@[expose] public section

set_option maxRecDepth 16384

noncomputable section

/-! The reference's result as a function of what its arguments hold. -/

namespace Cert.Grid

open Idealize.ShloMosaic Idealize.ShloMosaic.TcCoe Cert.ReferenceIdeal Cert.ReferenceIdeal.Gen Cert.ReferenceIdeal.Value Idealize.ShloMosaic.StableHlo

/-- The sparse product of eight channels. -/
def spA : SpOk 8 := ⟨scatter_S102400x8_S408960x1_S408960x8_1_0_0_1, gather_S102400x8_S408960x1_S408960x8_1_0_n_n_0_1_18, rfl, rfl, rfl, rfl,
  rfl, rfl, rfl, rfl, rfl, bcast_S_S102400x8, bcast_S408960_S408960x8_0, bcast_S_S408960x8, bcast_S408960x1_S408960x8_0_1⟩

/-- The sparse product of 64 channels. -/
def spB : SpOk 64 := ⟨scatter_S102400x64_S408960x1_S408960x64_1_0_0_1, gather_S102400x64_S408960x1_S408960x64_1_0_n_n_0_1_164, rfl, rfl, rfl, rfl,
  rfl, rfl, rfl, rfl, rfl, bcast_S_S102400x64, bcast_S408960_S408960x64_0, bcast_S_S408960x64, bcast_S408960x1_S408960x64_0_1⟩

theorem dotA (x : FVec Ideal (B3 1 102400 24) .f32) (w : FVec Ideal (B2 24 64) .f32) (n : Fin 102400) (p : Fin 64) :
    Host.dotGeneral dot_S1x102400x24_S24x64_S1x102400x64_2_0_01_1_n_n none x w (ix3 0 n p) = ∑ j : Fin 24, x (ix3 0 n j) * w (ix2 j p) := by
  pointwise

theorem dotB (x : FVec Ideal (B3 1 102400 192) .f32) (w : FVec Ideal (B2 192 64) .f32) (n : Fin 102400) (p : Fin 64) :
    Host.dotGeneral dot_S1x102400x192_S192x64_S1x102400x64_2_0_01_1_n_n none x w (ix3 0 n p) = ∑ j : Fin 192, x (ix3 0 n j) * w (ix2 j p) := by
  pointwise

theorem dotC (x : FVec Ideal (B3 1 102400 192) .f32) (w : FVec Ideal (B2 192 2) .f32) (n : Fin 102400) (p : Fin 2) :
    Host.dotGeneral dot_S1x102400x192_S192x2_S1x102400x2_2_0_01_1_n_n none x w (ix3 0 n p) = ∑ j : Fin 192, x (ix3 0 n j) * w (ix2 j p) := by
  pointwise

/-- The first layer's side conditions. -/
def lyA : LyOk 8 24 64 := ⟨by omega, by omega, by omega, by omega, dot_S1x102400x24_S24x64_S1x102400x64_2_0_01_1_n_n, bcast_S_S102400x8,
  bcast_S102400x8_S1x102400x8_1_2, concatenates_S1x102400x8_S1x102400x8_S1x102400x8_S3x102400x8_d0, shapeCasts_S3x102400x8_S3x102400x1x8,
  transposes_S3x102400x1x8_S1x102400x3x8_2_1_0_3, shapeCasts_S1x102400x3x8_S1x102400x24, shapeCasts_S3x8x64_S24x64, bcast_S64_S1x1x64_2,
  bcast_S1x1x64_S1x102400x64_0_1_2, dotA⟩

/-- A middle layer's side conditions. -/
def lyB : LyOk 64 192 64 := ⟨by omega, by omega, by omega, by omega, dot_S1x102400x192_S192x64_S1x102400x64_2_0_01_1_n_n, bcast_S_S102400x64,
  bcast_S102400x64_S1x102400x64_1_2, concatenates_S1x102400x64_S1x102400x64_S1x102400x64_S3x102400x64_d0, shapeCasts_S3x102400x64_S3x102400x1x64,
  transposes_S3x102400x1x64_S1x102400x3x64_2_1_0_3, shapeCasts_S1x102400x3x64_S1x102400x192, shapeCasts_S3x64x64_S192x64, bcast_S64_S1x1x64_2,
  bcast_S1x1x64_S1x102400x64_0_1_2, dotB⟩

/-- The last layer's side conditions. -/
def lyC : LyOk 64 192 2 := ⟨by omega, by omega, by omega, by omega, dot_S1x102400x192_S192x2_S1x102400x2_2_0_01_1_n_n, bcast_S_S102400x64,
  bcast_S102400x64_S1x102400x64_1_2, concatenates_S1x102400x64_S1x102400x64_S1x102400x64_S3x102400x64_d0, shapeCasts_S3x102400x64_S3x102400x1x64,
  transposes_S3x102400x1x64_S1x102400x3x64_2_1_0_3, shapeCasts_S1x102400x3x64_S1x102400x192, shapeCasts_S3x64x2_S192x2, bcast_S2_S1x1x2_2,
  bcast_S1x1x2_S1x102400x2_0_1_2, dotC⟩

/-- A layer of the reference before its activation. -/
def refLayer {f m o : ℕ} (h : LyOk f m o) (S : SpOk f) (rows cols : IVec S408960 32) (vals : FVec Ideal S408960 .f32) (x : FVec Ideal (B2 102400 f) .f32)
    (w : FVec Ideal (B3 3 f o) .f32) (b : FVec Ideal ⟨1, ![o]⟩ .f32) : FVec Ideal (B3 1 102400 o) .f32 :=
  refLin h x (spmm S rows (wcol cols) vals x) (third h (spmm S rows (wcol cols) vals (spmm S rows (wcol cols) vals x)) x) w b

/-- A layer of the reference is the layer of the field its input holds. -/
theorem refLayer_apply {f m o : ℕ} (h : LyOk f m o) (S : SpOk f) (rows cols : IVec S408960 32) (vals : FVec Ideal S408960 .f32) (E : Edges rows cols vals)
    (x : FVec Ideal (B2 102400 f) .f32) (w : FVec Ideal (B3 3 f o) .f32) (b : FVec Ideal ⟨1, ![o]⟩ .f32)
    (X : Field) (hX : Sided X) (W : ℕ → ℕ → ℕ → EReal) (B : ℕ → EReal) (hx : HoldsF x X) (hw : HoldsW w W) (hb : HoldsB b B)
    (n : Fin 102400) (p : Fin o) : refLayer h S rows cols vals x w b (ix3 0 n p) = lin f W B X (((n : ℕ) / 320 : ℕ) : ℤ) p ((n : ℕ) % 320) := by
  have h1 : HoldsF (spmm S rows (wcol cols) vals x) (c1 X) := spmm_apply S rows cols vals E x X hX hx
  have h2 : HoldsF (spmm S rows (wcol cols) vals (spmm S rows (wcol cols) vals x)) (c1 (c1 X)) := spmm_apply S rows cols vals E _ _ hX.c1 h1
  exact refLin_apply h _ _ _ w b X W B hx h1 (fun n k => (third_apply h _ _ n k _ _ (h2 n k) (hx n k)).trans (by rw [c2_eq])) hw hb n p

/-- The activation, and the nodes' rows put first. -/
def refAct (v : FVec Ideal (B3 1 102400 64) .f32) : FVec Ideal (B2 102400 64) .f32 :=
  shapeCast _ (transpose S102400x1x64 [1, 0, 2] (select (cmpf .ogt v (broadcastInDim S1x102400x64 ![] bcast_S_S1x102400x64 (constant S_ .f32 0x00000000#32))) v
    (mulf (broadcastInDim S1x102400x64 ![] bcast_S_S1x102400x64 (constant S_ .f32 0x3F800000#32))
      (Host.expm1 (select (cmpf .ogt v (broadcastInDim S1x102400x64 ![] bcast_S_S1x102400x64 (constant S_ .f32 0x00000000#32)))
        (broadcastInDim S1x102400x64 ![] bcast_S_S1x102400x64 (id (constant S_ .f32 0x00000000#32))) v)))) transposes_S1x102400x64_S102400x1x64_1_0_2)
    shapeCasts_S102400x1x64_S102400x64

theorem refAct_apply (v : FVec Ideal (B3 1 102400 64) .f32) (n : Fin 102400) (k : Fin 64) (a : EReal) (hv : v (ix3 0 n k) = a) :
    refAct v (ix2 n k) = elu a := by
  pointwise [refAct]
  rw [hv]
  by_cases h : 0 < a
  · rw [if_pos h, elu, if_pos h]
  · rw [if_neg h, if_neg h, elu, if_neg h, min_eq_left (not_lt.1 h)]

/-- A hidden layer of the reference with its activation holds the next field. -/
theorem refHidden {f m : ℕ} (h : LyOk f m 64) (S : SpOk f) (rows cols : IVec S408960 32) (vals : FVec Ideal S408960 .f32) (E : Edges rows cols vals)
    (x : FVec Ideal (B2 102400 f) .f32) (w : FVec Ideal (B3 3 f 64) .f32) (b : FVec Ideal ⟨1, ![64]⟩ .f32)
    (X : Field) (hX : Sided X) (W : ℕ → ℕ → ℕ → EReal) (B : ℕ → EReal) (hx : HoldsF x X) (hw : HoldsW w W) (hb : HoldsB b B) :
    HoldsF (refAct (refLayer h S rows cols vals x w b)) (act f W B X) := fun n k =>
  refAct_apply _ n k _ (refLayer_apply h S rows cols vals E x w b X hX W B hx hw hb n k)

theorem v1_apply (V : Valuation τ sig (Elt Ideal)) (n : Fin 102400) (k : Fin 8) : res_main_v1 V (ix2 n k) = V (Proc.devRef .tc main_arg0) (ix3 0 n k) := by
  pointwise [res_main_v1]

/-- The whole reference, as the chain of its layers. -/
def refNet (V : Valuation τ sig (Elt Ideal)) : FVec Ideal (B3 1 102400 2) .f32 :=
  let l {f m o : ℕ} (h : LyOk f m o) (S : SpOk f) := refLayer h S (V (Proc.devRef .tc main_arg11)) (V (Proc.devRef .tc main_arg12)) (V (Proc.devRef .tc main_arg13))
  l lyC spB (refAct (l lyB spB (refAct (l lyB spB (refAct (l lyB spB (refAct (l lyA spA (res_main_v1 V) (V (Proc.devRef .tc main_arg1)) (V (Proc.devRef .tc main_arg2))))
    (V (Proc.devRef .tc main_arg3)) (V (Proc.devRef .tc main_arg4)))) (V (Proc.devRef .tc main_arg5)) (V (Proc.devRef .tc main_arg6))))
    (V (Proc.devRef .tc main_arg7)) (V (Proc.devRef .tc main_arg8)))) (V (Proc.devRef .tc main_arg9)) (V (Proc.devRef .tc main_arg10))

/-- The reference's arguments hold the inputs. -/
def RefHolds (V : Valuation τ sig (Elt Ideal)) (I : Ins) : Prop :=
  I.Holds (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8)) (V (Proc.devRef .tc main_arg9)) (V (Proc.devRef .tc main_arg10))

/-- The reference computes the network. -/
theorem refNet_apply (V : Valuation τ sig (Elt Ideal)) (I : Ins) (hX : Sided I.x) (H : RefHolds V I)
    (E : Edges (V (Proc.devRef .tc main_arg11)) (V (Proc.devRef .tc main_arg12)) (V (Proc.devRef .tc main_arg13))) (n : Fin 102400) (o : Fin 2) :
    refNet V (ix3 0 n o) = I.out n o := by
  have x0 : HoldsF (res_main_v1 V) I.x := fun n k => (v1_apply V n k).trans (H.x n k)
  have x1 := refHidden lyA spA _ _ _ E _ _ _ _ hX _ _ x0 H.w1 H.b1
  have x2 := refHidden lyB spB _ _ _ E _ _ _ _ (act_sided _ _ _ _) _ _ x1 H.w2 H.b2
  have x3 := refHidden lyB spB _ _ _ E _ _ _ _ (act_sided _ _ _ _) _ _ x2 H.w3 H.b3
  have x4 := refHidden lyB spB _ _ _ E _ _ _ _ (act_sided _ _ _ _) _ _ x3 H.w4 H.b4
  exact refLayer_apply lyC spB _ _ _ E _ _ _ _ (act_sided _ _ _ _) _ _ x4 H.w5 H.b5 n o

/-- Every run of the reference ends with its result the chain of layers, its arguments as they were. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v158) = refNet (launchContents m c) :=
  (θ_run defs _ _).mono (fun _ h c => (h c).1) (Value.run m ρ)

end Cert.Grid
-- ==== Proof.Pre.lean ====
module

public import proofs.«01_k».proof.Proof.Net
public import proofs.«01_k».proof.Proof.RefNet
public import proofs.«01_k».proof.Pre_grid_graph
public import Idealize.ShloMosaic.Lib.ReduceAll

@[expose] public section

set_option maxRecDepth 16384

noncomputable section

/-! What the precondition says of the arguments. -/

namespace Cert.Grid

open Idealize.ShloMosaic Cert.Pre_grid_graph
open Cert.Pre_grid_graph.Facts

variable [Cert.Pre_grid_graph.Facts]

/-- Each node's number. -/
def node : IVec S320x320 32 := addi (muli (iotaInDim S320x320 32 0) (broadcastInDim S320x320 ![] bcast_S_S320x320 (constantI S_ 32 320#32))) (iotaInDim S320x320 32 1)

/-- The number of each node's east neighbour. -/
def east : IVec S320x320 32 :=
  addi (muli (iotaInDim S320x320 32 0) (broadcastInDim S320x320 ![] bcast_S_S320x320 (constantI S_ 32 320#32)))
    (select (cmpi .eq (iotaInDim S320x320 32 1) (broadcastInDim S320x320 ![] bcast_S_S320x320 (constantI S_ 32 319#32)))
      (broadcastInDim S320x320 ![] bcast_S_S320x320 (id (constantI S_ 32 0#32)))
      (addi (iotaInDim S320x320 32 1) (broadcastInDim S320x320 ![] bcast_S_S320x320 (constantI S_ 32 1#32))))

theorem mul_320 (r : ℕ) : IntOp.muli (BitVec.ofNat 32 r) 320#32 = BitVec.ofNat 32 (r * 320) := (BitVec.ofNat_mul ..).symm

theorem node_apply (r c : Fin 320) : node (ix2 r c) = BitVec.ofNat 32 (320 * r + c) := by
  pointwise [node]
  have := r.2
  have := c.2
  rw [mul_320]
  word_omega

theorem east_apply (r c : Fin 320) : east (ix2 r c) = BitVec.ofNat 32 (eastN (320 * r + c)) := by
  pointwise [east]
  have hr := r.2
  have hc := c.2
  have he : eastN (320 * r + c) = 320 * r + if (c : ℕ) = 319 then 0 else c + 1 := by unfold eastN; split_ifs <;> omega
  rw [he, mul_320]
  show IntOp.addi (BitVec.ofNat 32 (r * 320)) (Scalar.select (IntOp.cmpi CmpIPredicate.eq (BitVec.ofNat 32 c) 319#32) 0#32
    (IntOp.addi (BitVec.ofNat 32 c) 1#32)) = _
  by_cases h : (c : ℕ) = 319
  · rw [if_pos h, h]; word_omega
  · rw [if_neg h]; word_omega

/-- Two arrays over the grid and two over all its rows but one, flattened and put one after another. -/
def cat4 {α : Type} (a b : S320x320.Idx → α) (c d : S319x320.Idx → α) : S408960.Idx → α :=
  concatenate S408960 0 [⟨S102400, shapeCast S102400 a shapeCasts_S320x320_S102400⟩, ⟨S102400, shapeCast S102400 b shapeCasts_S320x320_S102400⟩,
    ⟨S102080, shapeCast S102080 c shapeCasts_S319x320_S102080⟩, ⟨S102080, shapeCast S102080 d shapeCasts_S319x320_S102080⟩]
    concatenates_S102400_S102400_S102080_S102080_S408960_d0

theorem cat4_apply {α : Type} (a b : S320x320.Idx → α) (c d : S319x320.Idx → α) (A B C D : ℕ → α) (ha : ∀ r l : Fin 320, a (ix2 r l) = A (320 * r + l))
    (hb : ∀ r l : Fin 320, b (ix2 r l) = B (320 * r + l)) (hc : ∀ (r : Fin 319) (l : Fin 320), c (ix2 r l) = C (320 * r + l))
    (hd : ∀ (r : Fin 319) (l : Fin 320), d (ix2 r l) = D (320 * r + l)) (e : Fin 408960) :
    cat4 a b c d (ix1 e) = if (e : ℕ) < 102400 then A e else if (e : ℕ) < 204800 then B (e - 102400) else if (e : ℕ) < 306880 then C (e - 204800) else D (e - 306880) := by
  pointwise [cat4]
  have he := e.2
  have hs : ∀ n : ℕ, 320 * (n / 320) + n % 320 = n := fun n => Nat.div_add_mod n 320
  by_cases h1 : (e : ℕ) < 102400
  · rw [dif_pos h1, if_pos h1, ha]; exact congrArg A (hs _)
  by_cases h2 : (e : ℕ) < 204800
  · rw [dif_neg h1, dif_pos (by omega), if_neg h1, if_pos h2, hb]; exact congrArg B (hs _)
  by_cases h3 : (e : ℕ) < 306880
  · rw [dif_neg h1, dif_neg (by omega), dif_pos (by omega), if_neg h1, if_neg h2, if_pos h3, hc]
    exact congrArg C ((hs _).trans (by omega))
  · rw [dif_neg h1, dif_neg (by omega), dif_neg (by omega), if_neg h1, if_neg h2, if_neg h3, hd]
    exact congrArg D ((hs _).trans (by omega))

/-- Which channels hold no `-∞`, or hold no `+∞`. -/
def oneSided (a : FVec Ideal S1x102400x8 .f32) : IVec S8 1 :=
  ori (Host.reduce IntOp.andi (cmpf .ogt a (broadcastInDim S1x102400x8 ![] bcast_S_S1x102400x8 (constant S_ .f32 0xFF800000#32))) (constantI S_ 1 1#1)
      reducesTo_S1x102400x8_S8_d0_1 h_S_)
    (Host.reduce IntOp.andi (cmpf .olt a (broadcastInDim S1x102400x8 ![] bcast_S_S1x102400x8 (constant S_ .f32 0x7F800000#32))) (constantI S_ 1 1#1)
      reducesTo_S1x102400x8_S8_d0_1 h_S_)

theorem oneSided_apply (a : FVec Ideal S1x102400x8 .f32) (h : oneSided a = fun _ => 1#1) (k : Fin 8) :
    (∀ n : Fin 102400, a (ix3 0 n k) ≠ ⊥) ∨ (∀ n : Fin 102400, a (ix3 0 n k) ≠ ⊤) := by
  have hd : ∀ n : Fin 102400, (reducesTo_S1x102400x8_S8_d0_1 : S1x102400x8.ReducesTo [0, 1] S8).drop (ix3 0 n k) = ix1 k := fun n => by
    funext b
    fin_cases b
    exact Fin.ext (Shape.ReducesTo.drop_apply_val_of_eq reducesTo_S1x102400x8_S8_d0_1 (ix3 0 n k) 0 2)
  have ho : ∀ p q : BitVec 1, IntOp.ori p q = 1#1 → p = 1#1 ∨ q = 1#1 := by decide
  have hc : ∀ (p : Prop) [Decidable p], BitVec.ofBool (decide p) = 1#1 → p := fun p _ h => by
    by_contra hn
    rw [decide_eq_false hn] at h
    exact absurd h (by decide)
  rcases ho _ _ (congrFun h (ix1 k)) with h | h
  · refine Or.inl fun n => ?_
    have hi := Host.reduce_andi_eq_one _ _ _ _ _ h (ix3 0 n k) (hd n)
    pointwise at hi
    rw [show Ideal.ofBits .f32 0xFF800000#32 = (⊥ : EReal) by simp [Ideal.ofBits, Ideal.ieee]] at hi
    exact (hc _ hi).ne'
  · refine Or.inr fun n => ?_
    have hi := Host.reduce_andi_eq_one _ _ _ _ _ h (ix3 0 n k) (hd n)
    pointwise at hi
    rw [show Ideal.ofBits .f32 0x7F800000#32 = (⊤ : EReal) by simp [Ideal.ofBits, Ideal.ieee]] at hi
    exact (hc _ hi).ne

/-- Each node's row's factor. -/
def dinv : FVec Ideal S320x320 .f32 :=
  Host.divf (broadcastInDim S320x320 ![] bcast_S_S320x320 (constant S_ .f32 0x3F800000#32))
    (Host.sqrt (select (ori (cmpi .eq (iotaInDim S320x320 32 0) (broadcastInDim S320x320 ![] bcast_S_S320x320 (constantI S_ 32 0#32)))
      (cmpi .eq (iotaInDim S320x320 32 0) (broadcastInDim S320x320 ![] bcast_S_S320x320 (constantI S_ 32 319#32))))
      (broadcastInDim S320x320 ![] bcast_S_S320x320 (constant S_ .f32 0x40400000#32)) (broadcastInDim S320x320 ![] bcast_S_S320x320 (constant S_ .f32 0x40800000#32))))

theorem dinv_apply (r c : Fin 320) : dinv (ix2 r c) = ((dRow (r : ℕ) : ℝ) : EReal) := by
  pointwise [dinv]
  have hr := r.2
  have h3 : Ideal.ofBits .f32 0x40400000#32 = ((3 : ℝ) : EReal) := by simp [Ideal.ofBits, Ideal.ieee, -EReal.coe_mul]; norm_num
  have h4 : Ideal.ofBits .f32 0x40800000#32 = ((4 : ℝ) : EReal) := by simp [Ideal.ofBits, Ideal.ieee, -EReal.coe_mul]; norm_num
  rw [h3, h4]
  by_cases h : (r : ℕ) = 0 ∨ (r : ℕ) = 319
  · have hd : dRow ((r : ℕ) : ℤ) = (Real.sqrt 3)⁻¹ := by rw [dRow, if_neg (by omega), if_pos (by omega)]
    have hsel : IntOp.ori (IntOp.cmpi CmpIPredicate.eq (BitVec.ofNat 32 (r : ℕ)) 0#32) (IntOp.cmpi CmpIPredicate.eq (BitVec.ofNat 32 (r : ℕ)) 319#32) = 1#1 := by
      rcases h with h | h <;> rw [h] <;> rfl
    rw [hsel, hd]
    show Ideal.div 1 (Ideal.sqrt ((3 : ℝ) : EReal)) = _
    rw [Ideal.sqrt_coe, if_neg (by norm_num), Ideal.div_coe (by positivity), one_mul, one_div]
  · have hd : dRow ((r : ℕ) : ℤ) = 1 / 2 := by rw [dRow, if_neg (by omega), if_neg (by omega)]
    have hsel : IntOp.ori (IntOp.cmpi CmpIPredicate.eq (BitVec.ofNat 32 (r : ℕ)) 0#32) (IntOp.cmpi CmpIPredicate.eq (BitVec.ofNat 32 (r : ℕ)) 319#32) = 0#1 := by
      rw [(WordCmp.cmpi_eq_ofNat_eq_zero_iff (w := 32) (a := r) (b := 0) (by omega) (by omega)).2 (by omega),
        (WordCmp.cmpi_eq_ofNat_eq_zero_iff (w := 32) (a := r) (b := 319) (by omega) (by omega)).2 (by omega)]
      rfl
    rw [hsel, hd]
    show Ideal.div 1 (Ideal.sqrt ((4 : ℝ) : EReal)) = _
    rw [Ideal.sqrt_coe, if_neg (by norm_num), show Real.sqrt 4 = 2 by rw [show (4 : ℝ) = 2 ^ 2 by norm_num]; exact Real.sqrt_sq (by norm_num),
      Ideal.div_coe (by norm_num), one_mul]

/-- The grid's edges' sources, as the precondition writes them. -/
def gRows : IVec S408960 32 := cat4 node east (extractStridedSlice S319x320 ![0, 0] node slices_S320x320_S319x320_0_0)
  (extractStridedSlice S319x320 ![1, 0] node slices_S320x320_S319x320_1_0)

/-- The grid's edges' targets. -/
def gCols : IVec S408960 32 := cat4 east node (extractStridedSlice S319x320 ![1, 0] node slices_S320x320_S319x320_1_0)
  (extractStridedSlice S319x320 ![0, 0] node slices_S320x320_S319x320_0_0)

/-- The weights of the edges along the rows. -/
def along : FVec Ideal S320x320 .f32 := mulf (Host.negf dinv) dinv

/-- The weights of the edges between the rows. -/
def across : FVec Ideal S319x320 .f32 := mulf (Host.negf (extractStridedSlice S319x320 ![0, 0] dinv slices_S320x320_S319x320_0_0))
  (extractStridedSlice S319x320 ![1, 0] dinv slices_S320x320_S319x320_1_0)

/-- The grid's edges' weights. -/
def gVals : FVec Ideal S408960 .f32 := cat4 along along across across

theorem slice_rows {α : Type} (a : S320x320.Idx → α) (r : Fin 319) (l : Fin 320) :
    extractStridedSlice S319x320 ![0, 0] a slices_S320x320_S319x320_0_0 (ix2 r l) = a (ix2 ⟨r, by omega⟩ l)
      ∧ extractStridedSlice S319x320 ![1, 0] a slices_S320x320_S319x320_1_0 (ix2 r l) = a (ix2 ⟨r + 1, by omega⟩ l) := by
  constructor
  · pointwise
    all_goals (congr 1; try (congr 1; ext; simp))
  · pointwise
    all_goals (congr 1; try (congr 1; ext; simp; try omega))

theorem node_slices (r : Fin 319) (l : Fin 320) :
    extractStridedSlice S319x320 ![0, 0] node slices_S320x320_S319x320_0_0 (ix2 r l) = BitVec.ofNat 32 (320 * r + l)
      ∧ extractStridedSlice S319x320 ![1, 0] node slices_S320x320_S319x320_1_0 (ix2 r l) = BitVec.ofNat 32 (320 * r + l + 320) :=
  ⟨(slice_rows node r l).1.trans (node_apply _ _), (slice_rows node r l).2.trans ((node_apply _ _).trans
    (congrArg (BitVec.ofNat 32) (show 320 * ((r : ℕ) + 1) + (l : ℕ) = _ by ring)))⟩

theorem gRows_apply (e : Fin 408960) : gRows (ix1 e) = BitVec.ofNat 32 (rowN e) := by
  refine (cat4_apply node east _ _ (fun n => BitVec.ofNat 32 n) (fun n => BitVec.ofNat 32 (eastN n)) (fun n => BitVec.ofNat 32 n) (fun n => BitVec.ofNat 32 (n + 320))
    node_apply east_apply (fun r l => (node_slices r l).1) (fun r l => (node_slices r l).2) e).trans ?_
  unfold rowN; split_ifs <;> rfl

theorem gCols_apply (e : Fin 408960) : gCols (ix1 e) = BitVec.ofNat 32 (colN e) := by
  refine (cat4_apply east node _ _ (fun n => BitVec.ofNat 32 (eastN n)) (fun n => BitVec.ofNat 32 n) (fun n => BitVec.ofNat 32 (n + 320)) (fun n => BitVec.ofNat 32 n)
    east_apply node_apply (fun r l => (node_slices r l).2) (fun r l => (node_slices r l).1) e).trans ?_
  unfold colN; split_ifs <;> rfl

/-- Minus a number times a number. -/
theorem neg_mul_coe (a b : ℝ) : (-(a : EReal)) * (b : EReal) = ((-a * b : ℝ) : EReal) := by
  rw [EReal.coe_mul, EReal.coe_neg]

theorem along_apply (r l : Fin 320) : along (ix2 r l) = ((-dRow (((320 * (r : ℕ) + (l : ℕ)) / 320 : ℕ) : ℤ) * dRow (((320 * (r : ℕ) + (l : ℕ)) / 320 : ℕ) : ℤ) : ℝ) : EReal) := by
  rw [show (320 * (r : ℕ) + (l : ℕ)) / 320 = r by omega, ← neg_mul_coe, ← dinv_apply r l]
  rfl

theorem across_apply (r : Fin 319) (l : Fin 320) :
    across (ix2 r l) = ((-dRow (((320 * (r : ℕ) + (l : ℕ)) / 320 : ℕ) : ℤ) * dRow (((320 * (r : ℕ) + (l : ℕ) + 320) / 320 : ℕ) : ℤ) : ℝ) : EReal) := by
  rw [show (320 * (r : ℕ) + (l : ℕ)) / 320 = (r : ℕ) by omega, show (320 * (r : ℕ) + (l : ℕ) + 320) / 320 = (r : ℕ) + 1 by omega, ← neg_mul_coe,
    ← (slice_rows dinv r l).1.trans (dinv_apply _ l), ← (slice_rows dinv r l).2.trans (dinv_apply _ l)]
  rfl

theorem eastN_row (n : ℕ) : eastN n / 320 = n / 320 := by unfold eastN; split_ifs <;> omega

theorem gVals_apply (e : Fin 408960) : gVals (ix1 e) = (valN e : EReal) := by
  refine (cat4_apply along along across across (fun n => ((-dRow ((n / 320 : ℕ) : ℤ) * dRow ((n / 320 : ℕ) : ℤ) : ℝ) : EReal))
    (fun n => ((-dRow ((n / 320 : ℕ) : ℤ) * dRow ((n / 320 : ℕ) : ℤ) : ℝ) : EReal))
    (fun n => ((-dRow ((n / 320 : ℕ) : ℤ) * dRow (((n + 320) / 320 : ℕ) : ℤ) : ℝ) : EReal))
    (fun n => ((-dRow ((n / 320 : ℕ) : ℤ) * dRow (((n + 320) / 320 : ℕ) : ℤ) : ℝ) : EReal))
    along_apply along_apply across_apply across_apply e).trans ?_
  unfold valN rowN colN
  split_ifs
  · rw [eastN_row]
  · rw [eastN_row]
  · rfl
  · exact congrArg _ (by ring)

/-- Arrays the precondition finds equal to the grid's are its edge list. -/
theorem edges_of (rows cols : IVec S408960 32) (vals : FVec Ideal S408960 .f32) (hr : cmpi .eq rows gRows = fun _ => 1#1) (hc : cmpi .eq cols gCols = fun _ => 1#1)
    (hv : cmpf .oeq vals gVals = fun _ => 1#1) : Edges rows cols vals := by
  have h1 : ∀ x y : BitVec 32, IntOp.cmpi .eq x y = 1#1 → x = y := fun x y h => by
    rw [WordCmp.cmpi_eq_eq] at h
    by_contra hn
    rw [decide_eq_false hn] at h
    exact absurd h (by decide)
  have h2 : ∀ x y : EReal, Ideal.cmp .oeq x y = 1#1 → x = y := fun x y h => by
    by_contra hn
    have h' : BitVec.ofBool (decide (x = y)) = 1#1 := h
    rw [decide_eq_false hn] at h'
    exact absurd h' (by decide)
  exact ⟨fun e => (h1 _ _ (congrFun hr (ix1 e))).trans (gRows_apply e), fun e => (h1 _ _ (congrFun hc (ix1 e))).trans (gCols_apply e),
    fun e => (h2 _ _ (congrFun hv (ix1 e))).trans (gVals_apply e)⟩

/-- The field an array holds. -/
def fieldOf (a : FVec Ideal (B3 1 102400 8) .f32) : Field := fun r k l => a (ix3 0 (Fin.ofNat 102400 (320 * r.toNat + l)) (Fin.ofNat 8 k))

/-- The weights an array holds. -/
def weightOf {f o : ℕ} [NeZero f] [NeZero o] (a : FVec Ideal (B3 3 f o) .f32) (t k p : ℕ) : EReal := a (ix3 (Fin.ofNat 3 t) (Fin.ofNat f k) (Fin.ofNat o p))

/-- The biases an array holds. -/
def biasOf {o : ℕ} [NeZero o] (a : FVec Ideal ⟨1, ![o]⟩ .f32) (p : ℕ) : EReal := a (ix1 (Fin.ofNat o p))

theorem ofNat_val {n : ℕ} [NeZero n] (k : Fin n) : Fin.ofNat n (k : ℕ) = k := Fin.ext (Nat.mod_eq_of_lt k.2)

/-- The inputs that eleven arrays hold. -/
def insOf (a0 : FVec Ideal (B3 1 102400 8) .f32) (a1 : FVec Ideal (B3 3 8 64) .f32) (a2 : FVec Ideal ⟨1, ![64]⟩ .f32)
    (a3 : FVec Ideal (B3 3 64 64) .f32) (a4 : FVec Ideal ⟨1, ![64]⟩ .f32) (a5 : FVec Ideal (B3 3 64 64) .f32) (a6 : FVec Ideal ⟨1, ![64]⟩ .f32)
    (a7 : FVec Ideal (B3 3 64 64) .f32) (a8 : FVec Ideal ⟨1, ![64]⟩ .f32) (a9 : FVec Ideal (B3 3 64 2) .f32) (a10 : FVec Ideal ⟨1, ![2]⟩ .f32) : Ins where
  x := fieldOf a0
  w1 := weightOf a1
  b1 := biasOf a2
  w2 := weightOf a3
  b2 := biasOf a4
  w3 := weightOf a5
  b3 := biasOf a6
  w4 := weightOf a7
  b4 := biasOf a8
  w5 := weightOf a9
  b5 := biasOf a10

theorem weightOf_apply {f o : ℕ} [NeZero f] [NeZero o] (a : FVec Ideal (B3 3 f o) .f32) : HoldsW a (weightOf a) := fun t k p => by
  rw [weightOf, ofNat_val, ofNat_val, ofNat_val]

theorem biasOf_apply {o : ℕ} [NeZero o] (a : FVec Ideal ⟨1, ![o]⟩ .f32) : HoldsB a (biasOf a) := fun p => by rw [biasOf, ofNat_val]

/-- The field of an array that the precondition accepts has no channel with infinities of both signs. -/
theorem fieldOf_sided (a : FVec Ideal (B3 1 102400 8) .f32) (h : oneSided a = fun _ => 1#1) : Sided (fieldOf a) := fun k =>
  (oneSided_apply a h (Fin.ofNat 8 k)).imp (fun h _ _ => h _) (fun h _ _ => h _)

/-- Arrays hold their inputs. -/
theorem insOf_holds (a0 : FVec Ideal (B3 1 102400 8) .f32) (a1 : FVec Ideal (B3 3 8 64) .f32) (a2 : FVec Ideal ⟨1, ![64]⟩ .f32)
    (a3 : FVec Ideal (B3 3 64 64) .f32) (a4 : FVec Ideal ⟨1, ![64]⟩ .f32) (a5 : FVec Ideal (B3 3 64 64) .f32) (a6 : FVec Ideal ⟨1, ![64]⟩ .f32)
    (a7 : FVec Ideal (B3 3 64 64) .f32) (a8 : FVec Ideal ⟨1, ![64]⟩ .f32) (a9 : FVec Ideal (B3 3 64 2) .f32) (a10 : FVec Ideal ⟨1, ![2]⟩ .f32) :
    (insOf a0 a1 a2 a3 a4 a5 a6 a7 a8 a9 a10).Holds a0 a1 a2 a3 a4 a5 a6 a7 a8 a9 a10 where
  x n k := by
    show _ = fieldOf a0 _ _ _
    rw [fieldOf, Int.toNat_natCast, Nat.div_add_mod, ofNat_val, ofNat_val]
  w1 := weightOf_apply a1
  b1 := biasOf_apply a2
  w2 := weightOf_apply a3
  b2 := biasOf_apply a4
  w3 := weightOf_apply a5
  b3 := biasOf_apply a6
  w4 := weightOf_apply a7
  b4 := biasOf_apply a8
  w5 := weightOf_apply a9
  b5 := biasOf_apply a10

end Cert.Grid
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_grid_graph
public import proofs.«01_k».proof.Proof.Run
public import proofs.«01_k».proof.Proof.RefNet
public import proofs.«01_k».proof.Proof.Pre
public import Idealize.ShloMosaic.Adequacy
public import Idealize.ShloMosaic.Init

@[expose] public section

noncomputable section

namespace Cert.Proof

open Idealize.ShloMosaic Idealize.SL.Sem

/-- The kernel's frame, on bits: it runs to the end and leaves its arguments alone. -/
theorem frame_p : @Cert.quiescent_Kernel Cert.Kernel.Gen.facts := fun m ρ _ => Cert.Kernel.Gen.frame m ρ

/-- The same of the kernel at the ideal instance. -/
theorem frame_pi : @Cert.quiescent_KernelIdeal Cert.KernelIdeal.Gen.facts := fun m ρ _ =>
  Cert.KernelIdeal.Gen.frame m ρ

/-- The reference's frame, read off its run. -/
theorem frame_ri : @Cert.quiescent_ReferenceIdeal Cert.ReferenceIdeal.Gen.facts := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The table gives the constant's bits when unnamed and the real number when named. -/
theorem preserves : Cert.preserves_Kernel_KernelIdeal :=
  IdealRules.named_const.statement Cert.KernelIdeal.κ "rsqrt3" .f32 0x3F13CD3A#32 (((Real.sqrt 3)⁻¹ : ℝ) : EReal) rfl

/-- The kernel's arguments hold inputs whose field has no channel with infinities of both signs, and the edge arrays hold the grid's edge list. -/
theorem pre_holds (m : (ℓ : Loc Cert.KernelIdeal.nD Cert.KernelIdeal.τ Cert.KernelIdeal.sig) → Buf (Elt Ideal) ℓ)
    (hpre : Cert.Pre_KernelIdeal_grid_graph m) (c : Dev Cert.KernelIdeal.nD) :
    (∃ I : Cert.Grid.Ins, Cert.Grid.Sided I.x ∧ Cert.Grid.MemHolds m I c)
      ∧ Cert.Grid.Edges (m ((c.tc : Thread Cert.KernelIdeal.nD Cert.KernelIdeal.τ).loc Cert.KernelIdeal.main_arg11))
          (m ((c.tc : Thread Cert.KernelIdeal.nD Cert.KernelIdeal.τ).loc Cert.KernelIdeal.main_arg12))
          (m ((c.tc : Thread Cert.KernelIdeal.nD Cert.KernelIdeal.τ).loc Cert.KernelIdeal.main_arg13)) := by
  obtain ⟨h0, h1, h2, h3⟩ := hpre c
  exact ⟨⟨_, Cert.Grid.fieldOf_sided _ h0, Cert.Grid.insOf_holds _ _ _ _ _ _ _ _ _ _ _⟩, Cert.Grid.edges_of _ _ _ h1 h2 h3⟩

/-- On the grid's edge list, and where no channel of the field has infinities of both signs, the kernel and the reference end with the same result. -/
theorem algebraic : Cert.algebraic_KernelIdeal_ReferenceIdeal_pre_grid_graph := by
  intro m ρ m' ρ' hpre hagree
  refine ⟨_, Cert.Grid.run m ρ, ?_⟩
  refine (θ_run Cert.ReferenceIdeal.defs _ _).mono (fun _ h c => ⟨(h c).1.trans ?_, (h c).2⟩) (Cert.ReferenceIdeal.Value.run m' ρ')
  obtain ⟨⟨I, hX, H⟩, E⟩ := pre_holds m hpre c
  obtain ⟨e0, e1, e2, e3, e4, e5, e6, e7, e8, e9, e10, e11, e12, e13⟩ := hagree c
  have H' : Cert.Grid.RefHolds (StableHlo.launchContents m' c) I := by
    unfold Cert.Grid.MemHolds at H
    rw [← e0, ← e1, ← e2, ← e3, ← e4, ← e5, ← e6, ← e7, ← e8, ← e9, ← e10] at H
    exact H
  rw [← e11, ← e12, ← e13] at E
  show Cert.Grid.refNet (StableHlo.launchContents m' c) = _
  funext i
  obtain ⟨n, o, rfl⟩ : ∃ (n : Fin 102400) (o : Fin 2), i = ix3 0 n o :=
    ⟨i 1, i 2, by funext q; fin_cases q; exacts [Subsingleton.elim (α := Fin 1) _ _, rfl, rfl]⟩
  exact (Cert.Grid.refNet_apply _ I hX H' E n o).trans (Cert.Grid.W7_out m ρ I c H n o).symm

theorem claim : Cert.Claim :=
  ⟨Cert.Kernel.Gen.facts, Cert.KernelIdeal.Gen.facts, Cert.ReferenceIdeal.Gen.facts, Cert.Pre_grid_graph.Gen.facts,
    frame_p, frame_pi, fun m ρ _ => frame_pi m ρ trivial, frame_ri, fun m ρ _ => frame_ri m ρ trivial, preserves, algebraic⟩

end Cert.Proof

end
